-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "neg_half_log2e" .f32 0xBF38AA3B#32 (((-1 / 2) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x2 : Shape := ⟨2, ![10000, 2]⟩
abbrev S10000x1 : Shape := ⟨2, ![10000, 1]⟩
abbrev S10000x3 : Shape := ⟨2, ![10000, 3]⟩
abbrev S_ : Shape := ⟨0, ![]⟩
abbrev S10240x2 : Shape := ⟨2, ![10240, 2]⟩
abbrev S2x10240 : Shape := ⟨2, ![2, 10240]⟩
abbrev S10240x1 : Shape := ⟨2, ![10240, 1]⟩
abbrev S1x10240 : Shape := ⟨2, ![1, 10240]⟩
abbrev S10240x3 : Shape := ⟨2, ![10240, 3]⟩
abbrev S3x10240 : Shape := ⟨2, ![3, 10240]⟩
abbrev S256 : Shape := ⟨1, ![256]⟩
abbrev S1x256 : Shape := ⟨2, ![1, 256]⟩
abbrev S10240x256 : Shape := ⟨2, ![10240, 256]⟩
abbrev S1x128 : Shape := ⟨2, ![1, 128]⟩
abbrev S128x1 : Shape := ⟨2, ![128, 1]⟩
abbrev S128x256 : Shape := ⟨2, ![128, 256]⟩
abbrev S3x65536 : Shape := ⟨2, ![3, 65536]⟩
abbrev S3x128 : Shape := ⟨2, ![3, 128]⟩
abbrev S128x128 : Shape := ⟨2, ![128, 128]⟩
abbrev S128x1024 : Shape := ⟨2, ![128, 1024]⟩
abbrev S3x1024 : Shape := ⟨2, ![3, 1024]⟩
abbrev S3x2x256x128 : Shape := ⟨4, ![3, 2, 256, 128]⟩
abbrev S3x256x2x128 : Shape := ⟨4, ![3, 256, 2, 128]⟩
abbrev S1x3x256x256 : Shape := ⟨4, ![1, 3, 256, 256]⟩

abbrev nBuf : Space → Nat
  | .hbm => 52
  | .vmem => 20
  | .smem => 0
  | _ => 0

abbrev bufTy : (tb : Table) → Fin (tcTables nBuf tb) → BufTy
  | .hbm, ⟨0, _⟩ => ⟨S10000x2, .f32⟩
  | .hbm, ⟨1, _⟩ => ⟨S10000x2, .f32⟩
  | .hbm, ⟨2, _⟩ => ⟨S10000x1, .f32⟩
  | .hbm, ⟨3, _⟩ => ⟨S10000x3, .f32⟩
  | .hbm, ⟨4, _⟩ => ⟨S10000x2, .f32⟩
  | .hbm, ⟨5, _⟩ => ⟨S10000x1, .f32⟩
  | .hbm, ⟨6, _⟩ => ⟨S_, .i32⟩
  | .hbm, ⟨7, _⟩ => ⟨S_, .f32⟩
  | .hbm, ⟨8, _⟩ => ⟨S10240x2, .f32⟩
  | .hbm, ⟨9, _⟩ => ⟨S2x10240, .f32⟩
  | .hbm, ⟨10, _⟩ => ⟨S_, .i32⟩
  | .hbm, ⟨11, _⟩ => ⟨S_, .f32⟩
  | .hbm, ⟨12, _⟩ => ⟨S10240x2, .f32⟩
  | .hbm, ⟨13, _⟩ => ⟨S2x10240, .f32⟩
  | .hbm, ⟨14, _⟩ => ⟨S_, .i32⟩
  | .hbm, ⟨15, _⟩ => ⟨S_, .f32⟩
  | .hbm, ⟨16, _⟩ => ⟨S10240x1, .f32⟩
  | .hbm, ⟨17, _⟩ => ⟨S1x10240, .f32⟩
  | .hbm, ⟨18, _⟩ => ⟨S_, .i32⟩
  | .hbm, ⟨19, _⟩ => ⟨S_, .f32⟩
  | .hbm, ⟨20, _⟩ => ⟨S10240x3, .f32⟩
  | .hbm, ⟨21, _⟩ => ⟨S3x10240, .f32⟩
  | .hbm, ⟨22, _⟩ => ⟨S_, .i32⟩
  | .hbm, ⟨23, _⟩ => ⟨S_, .f32⟩
  | .hbm, ⟨24, _⟩ => ⟨S10240x2, .f32⟩
  | .hbm, ⟨25, _⟩ => ⟨S2x10240, .f32⟩
  | .hbm, ⟨26, _⟩ => ⟨S_, .i32⟩
  | .hbm, ⟨27, _⟩ => ⟨S_, .f32⟩
  | .hbm, ⟨28, _⟩ => ⟨S10240x1, .f32⟩
  | .hbm, ⟨29, _⟩ => ⟨S1x10240, .f32⟩
  | .hbm, ⟨30, _⟩ => ⟨S256, .f32⟩
  | .hbm, ⟨31, _⟩ => ⟨S_, .f32⟩
  | .hbm, ⟨32, _⟩ => ⟨S256, .f32⟩
  | .hbm, ⟨33, _⟩ => ⟨S256, .f32⟩
  | .hbm, ⟨34, _⟩ => ⟨S_, .f32⟩
  | .hbm, ⟨35, _⟩ => ⟨S256, .f32⟩
  | .hbm, ⟨36, _⟩ => ⟨S256, .f32⟩
  | .hbm, ⟨37, _⟩ => ⟨S_, .f32⟩
  | .hbm, ⟨38, _⟩ => ⟨S256, .f32⟩
  | .hbm, ⟨39, _⟩ => ⟨S256, .f32⟩
  | .hbm, ⟨40, _⟩ => ⟨S_, .f32⟩
  | .hbm, ⟨41, _⟩ => ⟨S256, .f32⟩
  | .hbm, ⟨42, _⟩ => ⟨S256, .f32⟩
  | .hbm, ⟨43, _⟩ => ⟨S1x256, .f32⟩
  | .hbm, ⟨44, _⟩ => ⟨S10240x256, .f32⟩
  | .hbm, ⟨45, _⟩ => ⟨S10240x256, .f32⟩
  | .hbm, ⟨46, _⟩ => ⟨S10240x256, .f32⟩
  | .hbm, ⟨47, _⟩ => ⟨S3x10240, .bf16⟩
  | .hbm, ⟨48, _⟩ => ⟨S3x65536, .f32⟩
  | .hbm, ⟨49, _⟩ => ⟨S3x2x256x128, .f32⟩
  | .hbm, ⟨50, _⟩ => ⟨S3x256x2x128, .f32⟩
  | .hbm, ⟨51, _⟩ => ⟨S1x3x256x256, .f32⟩
  | .local _ .vmem, ⟨0, _⟩ => ⟨S2x10240, .f32⟩
  | .local _ .vmem, ⟨1, _⟩ => ⟨S2x10240, .f32⟩
  | .local _ .vmem, ⟨2, _⟩ => ⟨S1x10240, .f32⟩
  | .local _ .vmem, ⟨3, _⟩ => ⟨S3x10240, .f32⟩
  | .local _ .vmem, ⟨4, _⟩ => ⟨S2x10240, .f32⟩
  | .local _ .vmem, ⟨5, _⟩ => ⟨S1x10240, .f32⟩
  | .local _ .vmem, ⟨6, _⟩ => ⟨S1x256, .f32⟩
  | .local _ .vmem, ⟨7, _⟩ => ⟨S10240x256, .f32⟩
  | .local _ .vmem, ⟨8, _⟩ => ⟨S10240x256, .f32⟩
  | .local _ .vmem, ⟨9, _⟩ => ⟨S10240x256, .f32⟩
  | .local _ .vmem, ⟨10, _⟩ => ⟨S3x10240, .bf16⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S3x128, .bf16⟩
  | .local _ .vmem, ⟨18, _⟩ => ⟨S3x128, .bf16⟩
  | .local _ .vmem, ⟨19, _⟩ => ⟨S3x65536, .f32⟩
  | _, _ => ⟨S10000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_call1_v0 : Ref sig .tc := ⟨.hbm, 11, rfl⟩
abbrev main_v2 : Ref sig .tc := ⟨.hbm, 12, rfl⟩
abbrev main_v3 : Ref sig .tc := ⟨.hbm, 13, rfl⟩
abbrev main_c_1 : Ref sig .tc := ⟨.hbm, 14, rfl⟩
abbrev main_call2_v0 : Ref sig .tc := ⟨.hbm, 15, rfl⟩
abbrev main_v4 : Ref sig .tc := ⟨.hbm, 16, rfl⟩
abbrev main_v5 : Ref sig .tc := ⟨.hbm, 17, rfl⟩
abbrev main_c_2 : Ref sig .tc := ⟨.hbm, 18, rfl⟩
abbrev main_call3_v0 : Ref sig .tc := ⟨.hbm, 19, rfl⟩
abbrev main_v6 : Ref sig .tc := ⟨.hbm, 20, rfl⟩
abbrev main_v7 : Ref sig .tc := ⟨.hbm, 21, rfl⟩
abbrev main_c_3 : Ref sig .tc := ⟨.hbm, 22, rfl⟩
abbrev main_call4_v0 : Ref sig .tc := ⟨.hbm, 23, rfl⟩
abbrev main_v8 : Ref sig .tc := ⟨.hbm, 24, rfl⟩
abbrev main_v9 : Ref sig .tc := ⟨.hbm, 25, rfl⟩
abbrev main_c_4 : Ref sig .tc := ⟨.hbm, 26, rfl⟩
abbrev main_call5_v0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst : Ref sig .tc := ⟨.hbm, 31, rfl⟩
abbrev main_v13 : Ref sig .tc := ⟨.hbm, 32, rfl⟩
abbrev main_v14 : Ref sig .tc := ⟨.hbm, 33, rfl⟩
abbrev main_cst_5 : Ref sig .tc := ⟨.hbm, 34, rfl⟩
abbrev main_v15 : Ref sig .tc := ⟨.hbm, 35, rfl⟩
abbrev main_v16 : Ref sig .tc := ⟨.hbm, 36, rfl⟩
abbrev main_cst_6 : Ref sig .tc := ⟨.hbm, 37, rfl⟩
abbrev main_v17 : Ref sig .tc := ⟨.hbm, 38, rfl⟩
abbrev main_v18 : Ref sig .tc := ⟨.hbm, 39, rfl⟩
abbrev main_cst_7 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22_0 : Ref sig .tc := ⟨.hbm, 44, rfl⟩
abbrev main_v22_1 : Ref sig .tc := ⟨.hbm, 45, rfl⟩
abbrev main_v22_2 : Ref sig .tc := ⟨.hbm, 46, rfl⟩
abbrev main_v22_3 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19

abbrev nD : Nat := 1
abbrev τ : Topo := Topo.v7x

variable {F : FTy → Type} [FloatOps F]

abbrev grid0 : Pipeline.Grid := .none

abbrev stage0_0 : Fin 1 → Memref sig .tc .vmem S2x10240 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x10240 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x10240 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x10240 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x10240 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x10240 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S10240x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S10240x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S10240x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x10240 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S128x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S3x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S3x65536 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]
-- ==== KernelIdeal.lean ====
variable {F : FTy → Type} [FloatOps F] [Named F]
def κ : String → Option EReal := fun
  | "log2e" => some (((Real.log 2)⁻¹ : ℝ) : EReal)
  | "neg_half_log2e" => some (((-1 / 2) * (Real.log 2)⁻¹ : ℝ) : EReal)
  | _ => none
-- ==== ReferenceIdeal.lean ====
abbrev S10000x2 : Shape := ⟨2, ![10000, 2]⟩
abbrev S10000x1 : Shape := ⟨2, ![10000, 1]⟩
abbrev S10000x3 : Shape := ⟨2, ![10000, 3]⟩
abbrev S_ : Shape := ⟨0, ![]⟩
abbrev S1x2 : Shape := ⟨2, ![1, 2]⟩
abbrev S10000 : Shape := ⟨1, ![10000]⟩
abbrev S256 : Shape := ⟨1, ![256]⟩
abbrev S256x256 : Shape := ⟨2, ![256, 256]⟩
abbrev S65536 : Shape := ⟨1, ![65536]⟩
abbrev S1x65536 : Shape := ⟨2, ![1, 65536]⟩
abbrev S10000x65536 : Shape := ⟨2, ![10000, 65536]⟩
abbrev S65536x10000 : Shape := ⟨2, ![65536, 10000]⟩
abbrev S65536x3 : Shape := ⟨2, ![65536, 3]⟩
abbrev S1x256x256x3 : Shape := ⟨4, ![1, 256, 256, 3]⟩
abbrev S1x3x256x256 : Shape := ⟨4, ![1, 3, 256, 256]⟩

abbrev nBuf : Space → Nat
  | .hbm => 145
  | .vmem => 0
  | .smem => 0
  | _ => 0

abbrev hbmTy0_0 (i : Nat) : BufTy := match i % 128 with
  | 0 => ⟨S10000x2, .f32⟩
  | 1 => ⟨S10000x2, .f32⟩
  | 2 => ⟨S10000x1, .f32⟩
  | 3 => ⟨S10000x3, .f32⟩
  | 4 => ⟨S10000x2, .f32⟩
  | 5 => ⟨S10000x1, .f32⟩
  | 6 => ⟨S_, .f32⟩
  | 7 => ⟨S1x2, .f32⟩
  | 8 => ⟨S10000x2, .f32⟩
  | 9 => ⟨S10000x2, .f32⟩
  | 10 => ⟨S10000x2, .f32⟩
  | 11 => ⟨S10000x2, .f32⟩
  | 12 => ⟨S10000, .f32⟩
  | 13 => ⟨S10000, .f32⟩
  | 14 => ⟨S10000, .f32⟩
  | 15 => ⟨S_, .f32⟩
  | 16 => ⟨S10000, .f32⟩
  | 17 => ⟨S10000, .f32⟩
  | 18 => ⟨S_, .f32⟩
  | 19 => ⟨S10000, .f32⟩
  | 20 => ⟨S10000, .f32⟩
  | 21 => ⟨S_, .f32⟩
  | 22 => ⟨S10000, .f32⟩
  | 23 => ⟨S10000, .f32⟩
  | 24 => ⟨S_, .f32⟩
  | 25 => ⟨S10000, .f32⟩
  | 26 => ⟨S10000, .f32⟩
  | 27 => ⟨S10000x2, .f32⟩
  | 28 => ⟨S10000x3, .f32⟩
  | 29 => ⟨S10000x3, .f32⟩
  | 30 => ⟨S10000x1, .f32⟩
  | 31 => ⟨S10000x1, .f32⟩
  | 32 => ⟨S10000x1, .f32⟩
  | 33 => ⟨S10000x3, .f32⟩
  | 34 => ⟨S10000x3, .f32⟩
  | 35 => ⟨S10000, .f32⟩
  | 36 => ⟨S10000, .f32⟩
  | 37 => ⟨S10000x1, .f32⟩
  | 38 => ⟨S10000, .f32⟩
  | 39 => ⟨S10000, .f32⟩
  | 40 => ⟨S_, .f32⟩
  | 41 => ⟨S10000, .f32⟩
  | 42 => ⟨S10000, .f32⟩
  | 43 => ⟨S10000x1, .f32⟩
  | 44 => ⟨S10000, .f32⟩
  | 45 => ⟨S10000, .f32⟩
  | 46 => ⟨S_, .f32⟩
  | 47 => ⟨S10000, .f32⟩
  | 48 => ⟨S10000, .f32⟩
  | 49 => ⟨S10000, .f32⟩
  | 50 => ⟨S10000, .f32⟩
  | 51 => ⟨S10000, .f32⟩
  | 52 => ⟨S10000, .f32⟩
  | 53 => ⟨S10000, .f32⟩
  | 54 => ⟨S10000, .f32⟩
  | 55 => ⟨S10000, .f32⟩
  | 56 => ⟨S10000, .f32⟩
  | 57 => ⟨S10000, .f32⟩
  | 58 => ⟨S10000, .f32⟩
  | 59 => ⟨S10000, .f32⟩
  | 60 => ⟨S10000, .f32⟩
  | 61 => ⟨S10000, .f32⟩
  | 62 => ⟨S10000, .f32⟩
  | 63 => ⟨S10000, .f32⟩
  | 64 => ⟨S10000, .f32⟩
  | 65 => ⟨S_, .f32⟩
  | 66 => ⟨S10000, .f32⟩
  | 67 => ⟨S10000, .f32⟩
  | 68 => ⟨S10000, .f32⟩
  | 69 => ⟨S10000, .f32⟩
  | 70 => ⟨S10000, .f32⟩
  | 71 => ⟨S10000, .f32⟩
  | 72 => ⟨S256, .f32⟩
  | 73 => ⟨S_, .f32⟩
  | 74 => ⟨S256, .f32⟩
  | 75 => ⟨S256, .f32⟩
  | 76 => ⟨S_, .f32⟩
  | 77 => ⟨S256, .f32⟩
  | 78 => ⟨S256, .f32⟩
  | 79 => ⟨S_, .f32⟩
  | 80 => ⟨S256, .f32⟩
  | 81 => ⟨S256, .f32⟩
  | 82 => ⟨S_, .f32⟩
  | 83 => ⟨S256, .f32⟩
  | 84 => ⟨S256, .f32⟩
  | 85 => ⟨S256, .f32⟩
  | 86 => ⟨S_, .f32⟩
  | 87 => ⟨S256, .f32⟩
  | 88 => ⟨S256, .f32⟩
  | 89 => ⟨S_, .f32⟩
  | 90 => ⟨S256, .f32⟩
  | 91 => ⟨S256, .f32⟩
  | 92 => ⟨S_, .f32⟩
  | 93 => ⟨S256, .f32⟩
  | 94 => ⟨S256, .f32⟩
  | 95 => ⟨S_, .f32⟩
  | 96 => ⟨S256, .f32⟩
  | 97 => ⟨S256, .f32⟩
  | 98 => ⟨S256x256, .f32⟩
  | 99 => ⟨S256x256, .f32⟩
  | 100 => ⟨S65536, .f32⟩
  | 101 => ⟨S65536, .f32⟩
  | 102 => ⟨S1x65536, .f32⟩
  | 103 => ⟨S10000x1, .f32⟩
  | 104 => ⟨S10000x65536, .f32⟩
  | 105 => ⟨S10000x65536, .f32⟩
  | 106 => ⟨S10000x65536, .f32⟩
  | 107 => ⟨S1x65536, .f32⟩
  | 108 => ⟨S10000x1, .f32⟩
  | 109 => ⟨S10000x65536, .f32⟩
  | 110 => ⟨S10000x65536, .f32⟩
  | 111 => ⟨S10000x65536, .f32⟩
  | 112 => ⟨S10000x1, .f32⟩
  | 113 => ⟨S10000x65536, .f32⟩
  | 114 => ⟨S10000x65536, .f32⟩
  | 115 => ⟨S10000x65536, .f32⟩
  | 116 => ⟨S10000x1, .f32⟩
  | 117 => ⟨S_, .f32⟩
  | 118 => ⟨S10000x1, .f32⟩
  | 119 => ⟨S10000x1, .f32⟩
  | 120 => ⟨S10000x65536, .f32⟩
  | 121 => ⟨S10000x65536, .f32⟩
  | 122 => ⟨S10000x65536, .f32⟩
  | 123 => ⟨S10000x65536, .f32⟩
  | 124 => ⟨S10000x1, .f32⟩
  | 125 => ⟨S10000x65536, .f32⟩
  | 126 => ⟨S10000x65536, .f32⟩
  | 127 => ⟨S10000x65536, .f32⟩
  | _ => ⟨S10000x2, .f32⟩

abbrev hbmTy0_1 (i : Nat) : BufTy := match i % 128 with
  | 0 => ⟨S10000x65536, .f32⟩
  | 1 => ⟨S_, .f32⟩
  | 2 => ⟨S10000x65536, .f32⟩
  | 3 => ⟨S10000x65536, .f32⟩
  | 4 => ⟨S10000x65536, .f32⟩
  | 5 => ⟨S65536x10000, .f32⟩
  | 6 => ⟨S65536x3, .f32⟩
  | 7 => ⟨S_, .f32⟩
  | 8 => ⟨S_, .f32⟩
  | 9 => ⟨S_, .f32⟩
  | 10 => ⟨S65536x3, .f32⟩
  | 11 => ⟨S65536x3, .f32⟩
  | 12 => ⟨S_, .f32⟩
  | 13 => ⟨S65536x3, .f32⟩
  | 14 => ⟨S65536x3, .f32⟩
  | 15 => ⟨S1x256x256x3, .f32⟩
  | 16 => ⟨S1x3x256x256, .f32⟩
  | _ => ⟨S10000x2, .f32⟩

abbrev hbmTy (i : Nat) : BufTy := match i / 128 with
  | 0 => hbmTy0_0 i
  | 1 => hbmTy0_1 i
  | _ => ⟨S10000x2, .f32⟩

abbrev bufTy : (tb : Table) → Fin (tcTables nBuf tb) → BufTy
  | .hbm, ⟨i, _⟩ => hbmTy i
  | _, _ => ⟨S10000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_6 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_7 : Ref sig .tc := ⟨.hbm, 73, rfl⟩
abbrev main_v59 : Ref sig .tc := ⟨.hbm, 74, rfl⟩
abbrev main_v60 : Ref sig .tc := ⟨.hbm, 75, rfl⟩
abbrev main_cst_8 : Ref sig .tc := ⟨.hbm, 76, rfl⟩
abbrev main_v61 : Ref sig .tc := ⟨.hbm, 77, rfl⟩
abbrev main_v62 : Ref sig .tc := ⟨.hbm, 78, rfl⟩
abbrev main_cst_9 : Ref sig .tc := ⟨.hbm, 79, rfl⟩
abbrev main_v63 : Ref sig .tc := ⟨.hbm, 80, rfl⟩
abbrev main_v64 : Ref sig .tc := ⟨.hbm, 81, rfl⟩
abbrev main_cst_10 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_11 : Ref sig .tc := ⟨.hbm, 86, rfl⟩
abbrev main_v68 : Ref sig .tc := ⟨.hbm, 87, rfl⟩
abbrev main_v69 : Ref sig .tc := ⟨.hbm, 88, rfl⟩
abbrev main_cst_12 : Ref sig .tc := ⟨.hbm, 89, rfl⟩
abbrev main_v70 : Ref sig .tc := ⟨.hbm, 90, rfl⟩
abbrev main_v71 : Ref sig .tc := ⟨.hbm, 91, rfl⟩
abbrev main_cst_13 : Ref sig .tc := ⟨.hbm, 92, rfl⟩
abbrev main_v72 : Ref sig .tc := ⟨.hbm, 93, rfl⟩
abbrev main_v73 : Ref sig .tc := ⟨.hbm, 94, rfl⟩
abbrev main_cst_14 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_cst_15 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_cst_16 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_cst_17 : Ref sig .tc := ⟨.hbm, 135, rfl⟩
abbrev main_cst_18 : Ref sig .tc := ⟨.hbm, 136, rfl⟩
abbrev main_call0_v0 : Ref sig .tc := ⟨.hbm, 137, rfl⟩
abbrev main_call0_v1 : Ref sig .tc := ⟨.hbm, 138, rfl⟩
abbrev main_call0_v2 : Ref sig .tc := ⟨.hbm, 139, rfl⟩
abbrev main_call0_v3 : Ref sig .tc := ⟨.hbm, 140, rfl⟩
abbrev main_call0_v4 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩

abbrev nD : Nat := 1
abbrev τ : Topo := Topo.v7x

variable {F : FTy → Type} [FloatOps F]
-- ==== Proof.Run.lean ====
/-
  The kernel program's run with its RESULT: the segments of the frame certificate, launched once more, with the last
  boundary's contents of the result array read beside the arguments.
-/
module

public import proofs.«01_k».proof.Proof.Gen.KernelIdeal.Frame

@[expose] public section

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the kernel program terminates with its result
    array at the last boundary's contents and its arguments as launched. -/
theorem run : θ_run defs (onTc (τ := τ) (main (F := F))) ⟨m, fun _ => 0, ρ⟩ (fun r => ∀ c : Dev nD,
      r.2.mem ((c.tc : Thread nD τ).loc main_v26) = W16 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h hz => fun c =>
      ⟨h c _ (mem_uc main_v26 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c)⟩)

end Cert.KernelIdeal.KRun

end
-- ==== Proof.RasterDef.lean ====
/-
  What one block of the raster call computes: the row recurrence of a half of the block's columns, eight rows beside one
  another, and their product with the block's amplitudes.
-/
module

public import proofs.«01_k».proof.Proof.Gen.KernelIdeal.Frame.Region1
public import Idealize.ShloMosaic.Lib.WritesUnit

@[expose] public section

set_option maxRecDepth 16384

noncomputable section

namespace Cert.KernelIdeal.Raster

open Idealize.ShloMosaic Idealize.ShloMosaic.TcCoe Idealize.ShloMosaic.Tactic
open Cert.KernelIdeal Cert.KernelIdeal.Gen

variable {F : FTy → Type} [FloatOps F] [Named F]

/-- The multiplier of row `y`: the first row's, times the ratio once a row. -/
def mRow (m rh : FVec F S128x128 .f32) : ℕ → FVec F S128x128 .f32
  | 0 => m
  | y + 1 => mulf (mRow m rh y) rh

/-- The weights of row `y`: the first row's, times each row's multiplier in turn. -/
def wRow (w m rh : FVec F S128x128 .f32) : ℕ → FVec F S128x128 .f32
  | 0 => w
  | y + 1 => mulf (wRow w m rh y) (mRow m rh y)

/-- Row `y`'s weights in the narrow type of the product. -/
def bRow (w m rh : FVec F S128x128 .f32) (y : ℕ) : FVec F S128x128 .bf16 := truncf .bf16 (wRow w m rh y) bitsLt_bf16_f32

/-- Eight rows' weights side by side, from row `8 g`. -/
def grp (w m rh : FVec F S128x128 .f32) (g : ℕ) : FVec F S128x1024 .bf16 :=
  concatenate S128x1024 1 [⟨S128x128, bRow w m rh (8 * g)⟩, ⟨S128x128, bRow w m rh (8 * g + 1)⟩,
    ⟨S128x128, bRow w m rh (8 * g + 2)⟩, ⟨S128x128, bRow w m rh (8 * g + 3)⟩, ⟨S128x128, bRow w m rh (8 * g + 4)⟩,
    ⟨S128x128, bRow w m rh (8 * g + 5)⟩, ⟨S128x128, bRow w m rh (8 * g + 6)⟩, ⟨S128x128, bRow w m rh (8 * g + 7)⟩]
    concatenates_S128x128_S128x128_S128x128_S128x128_S128x128_S128x128_S128x128_S128x128_S128x1024_d1

/-- The block's contribution to eight rows of a half: its amplitudes times their weights. -/
def part (a : FVec F S3x128 .bf16) (w m rh : FVec F S128x128 .f32) (g : ℕ) : FVec F S3x1024 .f32 :=
  matmul dot_S3x128_S128x1024_S3x1024_1_0_0_1_n_n none a (grp w m rh g) (constant S3x1024 .f32 0x00000000#32)

/-- Columns `128 h` to `128 h + 127` of a block's 256 lie within it. -/
theorem inbHalf (h : Fin 2) : ∀ a, (![0, 128 * h.val] : Fin 2 → ℕ) a + S128x128.size a ≤ S128x256.size a :=
  Fin.forall_fin_two.mpr ⟨le_refl _, by have := h.isLt; show 128 * h.val + 128 ≤ 256; omega⟩

/-- Columns `1024 i` to `1024 i + 1023` of the output lie within it. -/
theorem inbTile (i : Fin 64) : ∀ a, (![0, 1024 * i.val] : Fin 2 → ℕ) a + S3x1024.size a ≤ S3x65536.size a :=
  Fin.forall_fin_two.mpr ⟨le_refl _, by have := i.isLt; show 1024 * i.val + 1024 ≤ 65536; omega⟩

/-- Tile `i` of the output is in half `i / 32`. -/
def half (i : Fin 64) : Fin 2 := ⟨i.val / 32, by have := i.isLt; omega⟩

section Reads

variable (arg1 : Memref sig .tc .vmem S128x256 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S3x128 .bf16) (harg4 : arg4.IsWhole) (arg5 : Memref sig .tc .vmem S3x65536 .f32) (harg5 : arg5.IsWhole)
    (x0 : Vec F S128x256 .f32) (x1 : Vec F S128x256 .f32) (x2 : Vec F S128x256 .f32) (x3 : Vec F S3x128 .bf16)

/-- The half `h` of a block, as the body loads it. -/
def ldHalf (arg : Memref sig .tc .vmem S128x256 .f32) (harg : arg.IsWhole) (x : Vec F S128x256 .f32) (h : Fin 2) : FVec F S128x128 .f32 :=
  shapeCast S128x128 (View.readAt (Elt F) arg.view (Rect.unit (s := S128x256) ![0, 128 * h.val] S128x128.size (inbHalf h)).toLoadRect (harg.unread x) : Vec F S128x128 .f32) shapeCasts_S128x128_S128x128

/-- The block's amplitudes, as the body loads them. -/
def ldAmp (x : Vec F S3x128 .bf16) : FVec F S3x128 .bf16 :=
  shapeCast S3x128 (View.readAt (Elt F) arg4.view (Rect.unit (s := S3x128) ![0, 0] S3x128.size inb_S3x128_S3x128_0_0).toLoadRect (harg4.unread x) : Vec F S3x128 .bf16) shapeCasts_S3x128_S3x128

/-- Tile `i`'s contribution of one block. -/
def tilePart (i : Fin 64) : FVec F S3x1024 .f32 :=
  part (ldAmp arg4 harg4 x3) (ldHalf arg1 harg1 x0 (half i)) (ldHalf arg2 harg2 x1 (half i)) (ldHalf arg3 harg3 x2 (half i)) (i.val % 32)

/-- What a block that is not the first stores in tile `i`: what the tile held, plus the contribution. -/
def tileAdd (x4 : Vec F S3x65536 .f32) (i : Fin 64) : FVec F S3x1024 .f32 :=
  addf (shapeCast S3x1024 (View.readAt (Elt F) arg5.view (Rect.unit (s := S3x65536) ![0, 1024 * i.val] S3x1024.size (inbTile i)).toLoadRect (harg5.unread x4) : Vec F S3x1024 .f32) shapeCasts_S3x1024_S3x1024)
    (tilePart arg1 harg1 arg2 harg2 arg3 harg3 arg4 harg4 x0 x1 x2 x3 i)

/-- The stores of the first block: the whole output at zero, then each of the first `j` tiles, what the stores so far
left in it plus the block's contribution; newest first. -/
def accZero : (j : ℕ) → j ≤ 64 → List (View.Piece (Elt F) S3x65536 .f32)
  | 0, _ => [⟨Rect.unit (s := S3x65536) ![0, 0] S3x65536.size inb_S3x65536_S3x65536_0_0, k1_pay4⟩]
  | j + 1, hj =>
    ⟨Rect.unit (s := S3x65536) ![0, 1024 * j] S3x1024.size (inbTile ⟨j, hj⟩),
      addf (shapeCast S3x1024 (arg5.view.readCov (accZero j (Nat.le_of_succ_le hj)) (Rect.unit (s := S3x65536) ![0, 1024 * j] S3x1024.size (inbTile ⟨j, hj⟩)).toLoadRect : Vec F S3x1024 .f32) shapeCasts_S3x1024_S3x1024)
        (tilePart arg1 harg1 arg2 harg2 arg3 harg3 arg4 harg4 x0 x1 x2 x3 ⟨j, hj⟩)⟩ :: accZero j (Nat.le_of_succ_le hj)

end Reads

end Cert.KernelIdeal.Raster

end
-- ==== Proof.RasterList.lean ====
/-
  The stores of a block of the raster call, as one list of tiles: a middle block's, the last's, the first's.
-/
module

public import proofs.«01_k».proof.Proof.RasterDef

@[expose] public section

set_option maxRecDepth 16384

noncomputable section

namespace Cert.KernelIdeal.Raster

open Idealize.ShloMosaic Idealize.ShloMosaic.TcCoe Idealize.ShloMosaic.Tactic
open Cert.KernelIdeal Cert.KernelIdeal.Gen

variable {F : FTy → Type} [FloatOps F] [Named F]

set_option maxHeartbeats 2000000 in
/-- A middle block stores each of the 64 tiles once, what it held plus the block's contribution. -/
theorem list_B (c : Dev nD) (i : grid1.Coords) (arg1 : Memref sig .tc .vmem S128x256 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S3x128 .bf16) (harg4 : arg4.IsWhole) (arg5 : Memref sig .tc .vmem S3x65536 .f32) (harg5 : arg5.IsWhole) (hc0 : ¬cond1_0 i) (hc1 : ¬cond1_1 i)
    (x0 : Vec F S128x256 .f32) (x1 : Vec F S128x256 .f32) (x2 : Vec F S128x256 .f32) (x3 : Vec F S3x128 .bf16) (x4 : Vec F S3x65536 .f32) :
    (kernelRun1_B c i arg1 harg1 arg2 harg2 arg3 harg3 arg4 harg4 arg5 harg5 hc0 hc1 x0 x1 x2 x3 x4).1
      = View.tilePieces (Val := Elt F) (s := S3x65536) (e := .f32) S3x1024.size (fun i : Fin 64 => ![0, 1024 * i.val]) inbTile
          (tileAdd arg1 harg1 arg2 harg2 arg3 harg3 arg4 harg4 arg5 harg5 x0 x1 x2 x3 x4) 64 (le_refl _) := by
  sl_kernel_rfl

set_option maxHeartbeats 2000000 in
/-- The last block stores each tile as a middle block does, and then the whole output clipped to `[0, 1]`. -/
theorem list_C (c : Dev nD) (i : grid1.Coords) (arg1 : Memref sig .tc .vmem S128x256 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S3x128 .bf16) (harg4 : arg4.IsWhole) (arg5 : Memref sig .tc .vmem S3x65536 .f32) (harg5 : arg5.IsWhole) (hc0 : ¬cond1_0 i) (hc1 : cond1_1 i)
    (x0 : Vec F S128x256 .f32) (x1 : Vec F S128x256 .f32) (x2 : Vec F S128x256 .f32) (x3 : Vec F S3x128 .bf16) (x4 : Vec F S3x65536 .f32) :
    (kernelRun1_C c i arg1 harg1 arg2 harg2 arg3 harg3 arg4 harg4 arg5 harg5 hc0 hc1 x0 x1 x2 x3 x4).1
      = ⟨Rect.unit (s := S3x65536) ![0, 0] S3x65536.size inb_S3x65536_S3x65536_0_0,
          k1_pay2 (arg5.view.readCov (View.tilePieces (Val := Elt F) (s := S3x65536) (e := .f32) S3x1024.size (fun i : Fin 64 => ![0, 1024 * i.val]) inbTile
            (tileAdd arg1 harg1 arg2 harg2 arg3 harg3 arg4 harg4 arg5 harg5 x0 x1 x2 x3 x4) 64 (le_refl _))
            (Rect.unit (s := S3x65536) ![0, 0] S3x65536.size inb_S3x65536_S3x65536_0_0).toLoadRect)⟩
        :: View.tilePieces (Val := Elt F) (s := S3x65536) (e := .f32) S3x1024.size (fun i : Fin 64 => ![0, 1024 * i.val]) inbTile
          (tileAdd arg1 harg1 arg2 harg2 arg3 harg3 arg4 harg4 arg5 harg5 x0 x1 x2 x3 x4) 64 (le_refl _) := by
  sl_kernel_rfl

set_option maxHeartbeats 2000000 in
/-- The first block stores the whole output at zero and then each tile once. -/
theorem list_A (c : Dev nD) (i : grid1.Coords) (arg1 : Memref sig .tc .vmem S128x256 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S3x128 .bf16) (harg4 : arg4.IsWhole) (arg5 : Memref sig .tc .vmem S3x65536 .f32) (harg5 : arg5.IsWhole) (hc0 : cond1_0 i) (hc1 : ¬cond1_1 i)
    (x0 : Vec F S128x256 .f32) (x1 : Vec F S128x256 .f32) (x2 : Vec F S128x256 .f32) (x3 : Vec F S3x128 .bf16) :
    (kernelRun1_A c i arg1 harg1 arg2 harg2 arg3 harg3 arg4 harg4 arg5 harg5 hc0 hc1 x0 x1 x2 x3).1
      = accZero arg1 harg1 arg2 harg2 arg3 harg3 arg4 harg4 arg5 x0 x1 x2 x3 64 (le_refl _) := by
  sl_kernel_rfl

end Cert.KernelIdeal.Raster

end
-- ==== Proof.RasterStep.lean ====
/-
  One block of the raster call over the extended reals: what it adds to each pixel, and what each kind of block leaves.
-/
module

public import proofs.«01_k».proof.Proof.RasterList
public import Idealize.ShloMosaic.Lib.Pipeline.ValueKit
public import Idealize.ShloMosaic.Lib.WholeRead

@[expose] public section

set_option maxRecDepth 16384

noncomputable section

namespace Cert.KernelIdeal.Raster

open Idealize.ShloMosaic Idealize.ShloMosaic.TcCoe Idealize.ShloMosaic.Tactic
open Cert.KernelIdeal Cert.KernelIdeal.Gen

/-- A number times a ratio, `y` times over. -/
def mS (m r : EReal) : ℕ → EReal
  | 0 => m
  | y + 1 => mS m r y * r

/-- A number times the first `y` of those multipliers. -/
def wS (w m r : EReal) : ℕ → EReal
  | 0 => w
  | y + 1 => wS w m r y * mS m r y

/-- Row `y`'s multiplier at an index. -/
theorem mRow_apply (m rh : FVec Ideal S128x128 .f32) (j : S128x128.Idx) : ∀ y, mRow m rh y j = mS (m j) (rh j) y
  | 0 => rfl
  | y + 1 => by
    show mRow m rh y j * rh j = _
    rw [mRow_apply m rh j y]; rfl

/-- Row `y`'s weight at an index. -/
theorem wRow_apply (w m rh : FVec Ideal S128x128 .f32) (j : S128x128.Idx) : ∀ y, wRow w m rh y j = wS (w j) (m j) (rh j) y
  | 0 => rfl
  | y + 1 => by
    show wRow w m rh y j * mRow m rh y j = _
    rw [wRow_apply w m rh j y, mRow_apply m rh j y]; rfl

/-- Row `y`'s weight in the narrow type at an index. -/
theorem bRow_apply (w m rh : FVec Ideal S128x128 .f32) (y : ℕ) (j : S128x128.Idx) :
    bRow w m rh y j = wS (w j) (m j) (rh j) y := wRow_apply w m rh j y

/-- Lane `q` of eight rows side by side is row `q / 128`'s lane `q % 128`. -/
theorem grp_apply (w m rh : FVec Ideal S128x128 .f32) (g : ℕ) (k : Fin 128) (q : Fin 1024) :
    grp w m rh g (ix2 k q) = bRow w m rh (8 * g + q.val / 128) (ix2 k ⟨q.val % 128, Nat.mod_lt _ (by decide)⟩) := by
  have key : ∀ (a b : ℕ) (i j : Fin 128), a = b → i.val = j.val → bRow w m rh a (ix2 k i) = bRow w m rh b (ix2 k j) := by
    intro a b i j hab hij
    rw [hab, Fin.ext hij]
  have hq := q.isLt
  pointwise [grp]
  split_ifs <;> exact key _ _ _ _ (by omega) (by dsimp only; omega)

/-- A block's contribution at lane `q` of eight rows. -/
theorem part_apply (a : FVec Ideal S3x128 .bf16) (w m rh : FVec Ideal S128x128 .f32) (g : ℕ) (ch : Fin 3) (q : Fin 1024) :
    part a w m rh g (ix2 ch q) = ∑ k : Fin 128, a (ix2 ch k) * bRow w m rh (8 * g + q.val / 128) (ix2 k ⟨q.val % 128, Nat.mod_lt _ (by decide)⟩) := by
  have e : part a w m rh g (ix2 ch q) = ∑ k : Fin 128, a (ix2 ch k) * grp w m rh g (ix2 k q) := by
    pointwise [part]
  rw [e]
  exact Finset.sum_congr rfl fun k _ => by rw [grp_apply]

/-- What a block adds to a pixel, from its three arrays and its amplitudes: pixel `p` is lane `p % 128` of row
`p % 32768 / 128` of half `p / 32768`. -/
def contrib (x0 x1 x2 : Vec Ideal S128x256 .f32) (x3 : Vec Ideal S3x128 .bf16) (ch : Fin 3) (p : Fin 65536) : EReal :=
  ∑ k : Fin 128, (x3 (ix2 ch k) : EReal) *
    wS (x0 (ix2 k ⟨128 * (p.val / 32768) + p.val % 128, by have := p.isLt; omega⟩))
      (x1 (ix2 k ⟨128 * (p.val / 32768) + p.val % 128, by have := p.isLt; omega⟩))
      (x2 (ix2 k ⟨128 * (p.val / 32768) + p.val % 128, by have := p.isLt; omega⟩)) (p.val % 32768 / 128)

section Reads

variable (arg1 : Memref sig .tc .vmem S128x256 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S3x128 .bf16) (harg4 : arg4.IsWhole) (arg5 : Memref sig .tc .vmem S3x65536 .f32) (harg5 : arg5.IsWhole)
    (x0 : Vec Ideal S128x256 .f32) (x1 : Vec Ideal S128x256 .f32) (x2 : Vec Ideal S128x256 .f32) (x3 : Vec Ideal S3x128 .bf16)

/-- A loaded half at an index. -/
theorem ldHalf_apply (arg : Memref sig .tc .vmem S128x256 .f32) (harg : arg.IsWhole) (x : Vec Ideal S128x256 .f32) (h : Fin 2) (k j : Fin 128) :
    ldHalf arg harg x h (ix2 k j) = x (ix2 k ⟨128 * h.val + j.val, by have := h.isLt; have := j.isLt; omega⟩) := by
  have e : ldHalf arg harg x h (ix2 k j) = View.readAt (Elt Ideal) arg.view (Rect.unit (s := S128x256) ![0, 128 * h.val] S128x128.size (inbHalf h)).toLoadRect (harg.unread x) (ix2 k j) := by
    exact congrFun (shapeCast_self (s := S128x128) (α := EReal) _ _) _
  refine e.trans ((Memref.IsWhole.readAt_unread harg x _ _).trans (congrArg x ?_))
  funext a; apply Fin.ext
  match a with
  | ⟨0, _⟩ => show 0 + 1 * k.val = k.val; omega
  | ⟨1, _⟩ => show 128 * h.val + 1 * j.val = 128 * h.val + j.val; omega

/-- The loaded amplitudes at an index. -/
theorem ldAmp_apply (x : Vec Ideal S3x128 .bf16) (ch : Fin 3) (k : Fin 128) : ldAmp arg4 harg4 x (ix2 ch k) = x (ix2 ch k) := by
  have e : ldAmp arg4 harg4 x (ix2 ch k) = View.readAt (Elt Ideal) arg4.view (Rect.unit (s := S3x128) ![0, 0] S3x128.size inb_S3x128_S3x128_0_0).toLoadRect (harg4.unread x) (ix2 ch k) := by
    exact congrFun (shapeCast_self (s := S3x128) (α := EReal) _ _) _
  refine e.trans ((Memref.IsWhole.readAt_unread harg4 x _ _).trans (congrArg x ?_))
  funext a; apply Fin.ext
  match a with
  | ⟨0, _⟩ => show 0 + 1 * ch.val = ch.val; omega
  | ⟨1, _⟩ => show 0 + 1 * k.val = k.val; omega

/-- The tile that holds pixel `p`. -/
def tileOf (p : Fin 65536) : Fin 64 := ⟨p.val / 1024, by have := p.isLt; omega⟩
/-- Pixel `p`'s lane in its tile. -/
def laneOf (p : Fin 65536) : Fin 1024 := ⟨p.val % 1024, Nat.mod_lt _ (by decide)⟩

/-- A tile's contribution at a pixel of the tile. -/
theorem tilePart_apply (ch : Fin 3) (p : Fin 65536) :
    tilePart arg1 harg1 arg2 harg2 arg3 harg3 arg4 harg4 x0 x1 x2 x3 (tileOf p) (ix2 ch (laneOf p)) = contrib x0 x1 x2 x3 ch p := by
  have hp := p.isLt
  unfold tilePart contrib
  rw [part_apply]
  refine Finset.sum_congr rfl fun k _ => ?_
  rw [bRow_apply, ldAmp_apply, ldHalf_apply, ldHalf_apply, ldHalf_apply]
  have e1 : 8 * ((tileOf p).val % 32) + (laneOf p).val / 128 = p.val % 32768 / 128 := by
    show 8 * (p.val / 1024 % 32) + p.val % 1024 / 128 = _; omega
  have e2 : ∀ h, (⟨128 * (half (tileOf p)).val + (⟨(laneOf p).val % 128, Nat.mod_lt _ (by decide)⟩ : Fin 128).val, h⟩ : Fin 256)
      = ⟨128 * (p.val / 32768) + p.val % 128, by omega⟩ := fun h => Fin.ext (by
    show 128 * (p.val / 1024 / 32) + p.val % 1024 % 128 = _; dsimp only; omega)
  rw [e1, e2]

/-- A middle block's store at a pixel: what the pixel held plus the block's contribution. -/
theorem tileAdd_apply (x4 : Vec Ideal S3x65536 .f32) (ch : Fin 3) (p : Fin 65536) :
    tileAdd arg1 harg1 arg2 harg2 arg3 harg3 arg4 harg4 arg5 harg5 x0 x1 x2 x3 x4 (tileOf p) (ix2 ch (laneOf p))
      = (x4 (ix2 ch p) : EReal) + contrib x0 x1 x2 x3 ch p := by
  have e : (shapeCast S3x1024 (View.readAt (Elt Ideal) arg5.view (Rect.unit (s := S3x65536) ![0, 1024 * (tileOf p).val] S3x1024.size (inbTile (tileOf p))).toLoadRect (harg5.unread x4) : Vec Ideal S3x1024 .f32) shapeCasts_S3x1024_S3x1024 : FVec Ideal S3x1024 .f32) (ix2 ch (laneOf p))
      = x4 (ix2 ch p) := by
    refine (congrFun (shapeCast_self (s := S3x1024) (α := EReal) _ _) _).trans
      ((Memref.IsWhole.readAt_unread harg5 x4 _ _).trans (congrArg x4 ?_))
    funext a; apply Fin.ext
    match a with
    | ⟨0, _⟩ => show 0 + 1 * ch.val = ch.val; omega
    | ⟨1, _⟩ => show 1024 * (p.val / 1024) + 1 * (p.val % 1024) = p.val; omega
  exact congrArg₂ (fun a b : EReal => a + b) e (tilePart_apply arg1 harg1 arg2 harg2 arg3 harg3 arg4 harg4 x0 x1 x2 x3 ch p)

/-- A pixel is at its lane of its tile. -/
theorem at_tile (ch : Fin 3) (p : Fin 65536) : ∀ a : Fin 2, ((ix2 ch p : S3x65536.Idx) a).val
    = (![0, 1024 * (tileOf p).val] : Fin 2 → ℕ) a + ((ix2 ch (laneOf p) : S3x1024.Idx) a).val :=
  Fin.forall_fin_two.mpr ⟨(Nat.zero_add _).symm, (Nat.div_add_mod p.val 1024).symm⟩

/-- The tiles a middle block stores, read at a pixel. -/
theorem read_tiles (v : View sig .tc .vmem S3x65536 .f32) (f : v.ty.Contents (Elt Ideal)) (x4 : Vec Ideal S3x65536 .f32) (ch : Fin 3) (p : Fin 65536) :
    v.read (Elt Ideal) (v.writes (Elt Ideal) f (View.tilePieces (Val := Elt Ideal) (s := S3x65536) (e := .f32) S3x1024.size (fun i : Fin 64 => ![0, 1024 * i.val]) inbTile
          (tileAdd arg1 harg1 arg2 harg2 arg3 harg3 arg4 harg4 arg5 harg5 x0 x1 x2 x3 x4) 64 (le_refl _))) (ix2 ch p)
      = (x4 (ix2 ch p) : EReal) + contrib x0 x1 x2 x3 ch p := by
  refine Eq.trans (View.read_tilePieces (s := S3x65536) (e := .f32) v f S3x1024.size (fun i : Fin 64 => ![0, 1024 * i.val]) inbTile
    (tileAdd arg1 harg1 arg2 harg2 arg3 harg3 arg4 harg4 arg5 harg5 x0 x1 x2 x3 x4) 64 (le_refl _) (ix2 ch p) (tileOf p) (tileOf p).isLt (ix2 ch (laneOf p))
    (at_tile ch p) (1 : Fin 2) fun i' hi' => ?_) (tileAdd_apply arg1 harg1 arg2 harg2 arg3 harg3 arg4 harg4 arg5 harg5 x0 x1 x2 x3 x4 ch p)
  have hne : i'.val ≠ p.val / 1024 := fun h => hi' (Fin.ext h)
  show p.val < 1024 * i'.val ∨ 1024 * i'.val + 1024 ≤ p.val
  omega

/-- A pixel is at its own place in the whole output. -/
theorem at_whole (y : S3x65536.Idx) : ∀ a : Fin 2, (y a).val = (![0, 0] : Fin 2 → ℕ) a + (y a).val := fun a => by
  have e : (![0, 0] : Fin 2 → ℕ) a = 0 := by
    match a with
    | ⟨0, _⟩ => rfl
    | ⟨1, _⟩ => rfl
  rw [e, Nat.zero_add]

/-- A whole store read anywhere is its payload there. -/
theorem read_whole (v : View sig .tc .vmem S3x65536 .f32) (f : v.ty.Contents (Elt Ideal)) (w : Vec Ideal S3x65536 .f32)
    (L : List (View.Piece (Elt Ideal) S3x65536 .f32)) (y : S3x65536.Idx) :
    v.read (Elt Ideal) (v.writes (Elt Ideal) f (⟨Rect.unit (s := S3x65536) ![0, 0] S3x65536.size inb_S3x65536_S3x65536_0_0, w⟩ :: L)) y = w y :=
  View.read_writes_cons_unit_of_mem (s := S3x65536) (e := .f32) v f (off := ![0, 0]) (off' := ![0, 0]) (size := S3x65536.size)
    inb_S3x65536_S3x65536_0_0 w L y y rfl (at_whole y)

/-- The first block's stores so far, read at a pixel: zero, plus the contribution once the pixel's tile is stored. -/
theorem read_accZero (ch : Fin 3) (p : Fin 65536) : ∀ (j : ℕ) (hj : j ≤ 64),
    arg5.view.read (Elt Ideal) (arg5.view.writes (Elt Ideal) arg5.view.junk (accZero arg1 harg1 arg2 harg2 arg3 harg3 arg4 harg4 arg5 x0 x1 x2 x3 j hj)) (ix2 ch p)
      = if p.val / 1024 < j then (0 : EReal) + contrib x0 x1 x2 x3 ch p else 0
  | 0, hj => by
    rw [if_neg (Nat.not_lt_zero _)]
    refine (read_whole arg5.view arg5.view.junk (k1_pay4 (F := Ideal)) [] (ix2 ch p)).trans ?_
    pointwise [k1_pay4]
  | j + 1, hj => by
    have ih := read_accZero ch p j (Nat.le_of_succ_le hj)
    by_cases h : p.val / 1024 = j
    · have h1 : p.val / 1024 < j + 1 := by omega
      have h2 : ¬ p.val / 1024 < j := by omega
      simp only [if_pos h1]
      simp only [if_neg h2] at ih
      have ht : (⟨j, hj⟩ : Fin 64) = tileOf p := Fin.ext h.symm
      unfold accZero
      refine (View.read_writes_cons_unit_of_mem (s := S3x65536) (e := .f32) arg5.view arg5.view.junk (off' := ![0, 1024 * j]) (inbTile ⟨j, hj⟩) _ _ (ix2 ch p) (ix2 ch (laneOf p)) rfl
        (Fin.forall_fin_two.mpr ⟨(Nat.zero_add _).symm, by show p.val = 1024 * j + p.val % 1024; omega⟩)).trans ?_
      refine congrArg₂ (fun a b : EReal => a + b) ?_ ?_
      · refine (congrFun (shapeCast_self (s := S3x1024) (α := EReal) _ _) _).trans (Eq.trans ?_ ih)
        refine congrArg (arg5.view.read (Elt Ideal) (arg5.view.writes (Elt Ideal) arg5.view.junk (accZero arg1 harg1 arg2 harg2 arg3 harg3 arg4 harg4 arg5 x0 x1 x2 x3 j (Nat.le_of_succ_le hj)))) ?_
        funext a; apply Fin.ext
        match a with
        | ⟨0, _⟩ => show 0 + 1 * ch.val = ch.val; omega
        | ⟨1, _⟩ => show 1024 * j + 1 * (p.val % 1024) = p.val; omega
      · rw [ht]
        exact tilePart_apply arg1 harg1 arg2 harg2 arg3 harg3 arg4 harg4 x0 x1 x2 x3 ch p
    · have hiff : (p.val / 1024 < j + 1) = (p.val / 1024 < j) := propext ⟨fun _ => by omega, fun _ => by omega⟩
      simp only [hiff]
      rw [← ih]
      exact View.read_writes_cons_unit_of_not_mem (s := S3x65536) (e := .f32) arg5.view arg5.view.junk (off' := ![0, 1024 * j]) (inbTile ⟨j, hj⟩) _ _ (ix2 ch p) rfl (1 : Fin 2)
        (by show p.val < 1024 * j ∨ 1024 * j + 1024 ≤ p.val; omega)

end Reads

section Outs

variable (c : Dev nD) (i : grid1.Coords) (arg1 : Memref sig .tc .vmem S128x256 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S3x128 .bf16) (harg4 : arg4.IsWhole) (arg5 : Memref sig .tc .vmem S3x65536 .f32) (harg5 : arg5.IsWhole)
    (x0 : Vec Ideal S128x256 .f32) (x1 : Vec Ideal S128x256 .f32) (x2 : Vec Ideal S128x256 .f32) (x3 : Vec Ideal S3x128 .bf16) (x4 : Vec Ideal S3x65536 .f32) (ch : Fin 3) (p : Fin 65536)

/-- The first block leaves its contribution. -/
theorem outA_apply (hc0 : cond1_0 i) (hc1 : ¬cond1_1 i) :
    out1_A_4 c i arg1 harg1 arg2 harg2 arg3 harg3 arg4 harg4 arg5 harg5 hc0 hc1 x0 x1 x2 x3 (ix2 ch p)
      = (0 : EReal) + contrib x0 x1 x2 x3 ch p := by
  unfold out1_A_4
  rw [list_A]
  have h := read_accZero arg1 harg1 arg2 harg2 arg3 harg3 arg4 harg4 arg5 x0 x1 x2 x3 ch p 64 (le_refl _)
  rw [if_pos (by have := p.isLt; omega)] at h
  rw [View.read_writes_junk_apply_eq_canon] at h ⊢
  exact h

/-- A middle block leaves what there was plus its contribution. -/
theorem outB_apply (hc0 : ¬cond1_0 i) (hc1 : ¬cond1_1 i) :
    out1_B_4 c i arg1 harg1 arg2 harg2 arg3 harg3 arg4 harg4 arg5 harg5 hc0 hc1 x0 x1 x2 x3 x4 (ix2 ch p)
      = (x4 (ix2 ch p) : EReal) + contrib x0 x1 x2 x3 ch p := by
  unfold out1_B_4
  rw [list_B]
  exact read_tiles arg1 harg1 arg2 harg2 arg3 harg3 arg4 harg4 arg5 harg5 x0 x1 x2 x3 VO1_4 _ x4 ch p

/-- The last block leaves what there was plus its contribution, clipped. -/
theorem outC_apply (hc0 : ¬cond1_0 i) (hc1 : cond1_1 i) :
    out1_C_4 c i arg1 harg1 arg2 harg2 arg3 harg3 arg4 harg4 arg5 harg5 hc0 hc1 x0 x1 x2 x3 x4 (ix2 ch p)
      = min (1 : EReal) (max 0 ((x4 (ix2 ch p) : EReal) + contrib x0 x1 x2 x3 ch p)) := by
  unfold out1_C_4
  rw [list_C]
  refine (read_whole VO1_4 VO1_4.junk _ _ (ix2 ch p)).trans ?_
  have e : ∀ X : Vec Ideal S3x65536 .f32, k1_pay2 X (ix2 ch p) = min (1 : EReal) (max 0 (X (ix2 ch p))) := by
    intro X; pointwise [k1_pay2]
  refine (e _).trans (congrArg (fun z : EReal => min (1 : EReal) (max 0 z)) ?_)
  refine Eq.trans ?_ (read_tiles arg1 harg1 arg2 harg2 arg3 harg3 arg4 harg4 arg5 harg5 x0 x1 x2 x3 arg5.view arg5.view.junk x4 ch p)
  refine congrArg (arg5.view.read (Elt Ideal) _) ?_
  funext a; apply Fin.ext
  match a with
  | ⟨0, _⟩ => show 0 + 1 * ch.val = ch.val; omega
  | ⟨1, _⟩ => show 0 + 1 * p.val = p.val; omega

end Outs

end Cert.KernelIdeal.Raster

end
-- ==== Proof.RasterArr.lean ====
/-
  The raster call's result array over the extended reals: each pixel is the clipped sum over every point.
-/
module

public import proofs.«01_k».proof.Proof.RasterStep

@[expose] public section

set_option maxRecDepth 16384

noncomputable section

namespace Cert.KernelIdeal.Raster

open Idealize.ShloMosaic Idealize.ShloMosaic.TcCoe Idealize.ShloMosaic.Tactic
open Idealize.ShloMosaic.Pipeline (Dat)
open Cert.KernelIdeal Cert.KernelIdeal.Gen

/-- Pixel `p`'s column among the 256: lane `p % 128` of half `p / 32768`. -/
def colOf (p : Fin 65536) : Fin 256 := ⟨128 * (p.val / 32768) + p.val % 128, by have := p.isLt; omega⟩

/-- Point `n`'s term at a pixel. -/
def term (W M R : FVec Ideal S10240x256 .f32) (A : FVec Ideal S3x10240 .bf16) (ch : Fin 3) (p : Fin 65536) (n : Fin 10240) : EReal :=
  (A (ix2 ch n) : EReal) * wS (W (ix2 n (colOf p))) (M (ix2 n (colOf p))) (R (ix2 n (colOf p))) (p.val % 32768 / 128)

/-- The image the raster call makes of its arrays. -/
def rasterOut (W M R : FVec Ideal S10240x256 .f32) (A : FVec Ideal S3x10240 .bf16) : FVec Ideal S3x65536 .f32 :=
  fun i => min (1 : EReal) (max 0 (∑ n : Fin 10240, term W M R A (i 0) (i 1) n))

/-- The windows' block indices at every point. -/
theorem idx : ∀ t : Fin cfg1.N, win1_0.index t = ![t.val, 0] ∧ win1_1.index t = ![t.val, 0] ∧ win1_2.index t = ![t.val, 0]
    ∧ win1_3.index t = ![0, t.val] ∧ win1_4.index t = ![0, 0] :=
  (by decide +kernel : ∀ t : Fin grid1.N, _)

variable (V : (c : Dev nD) → (b : Ref sig .tc) → Buf (Elt Ideal) ((c : Thread nD τ).loc b)) (c : Dev nD)

/-- What block `b` adds to a pixel, nothing past the last block. -/
def blockAdd (ch : Fin 3) (p : Fin 65536) (b : ℕ) : EReal :=
  if h : b < cfg1.N then contrib (iblk1 V c 0 ⟨b, h⟩) (iblk1 V c 1 ⟨b, h⟩) (iblk1 V c 2 ⟨b, h⟩) (iblk1 V c 3 ⟨b, h⟩) ch p else 0

/-- Before the last block a pixel holds the sum of the blocks so far. -/
theorem outs_sum (ch : Fin 3) (p : Fin 65536) : ∀ (n : ℕ) (hn : n < cfg1.N), n < 79 →
    (outsAt1 V c n hn (ix2 ch p) : EReal) = ∑ b ∈ Finset.range (n + 1), blockAdd V c ch p b
  | 0, hn, _ => by
    rw [Finset.sum_range_one, outsAt1_A V c ⟨0, hn⟩ rfl (by show ¬ 0 % 80 = 79; omega), outA_apply, zero_add]
    unfold blockAdd
    rw [dif_pos hn]
  | n + 1, hn, hlt => by
    have ih := outs_sum ch p n (Nat.lt_of_succ_lt hn) (by omega)
    rw [Finset.sum_range_succ, ← ih]
    refine (congrFun (outsAt1_B V c ⟨n + 1, hn⟩ (by show ¬ (n + 1) % 80 = 0; omega) (by show ¬ (n + 1) % 80 = 79; omega)) (ix2 ch p)).trans ?_
    rw [outB_apply]
    refine congrArg₂ (fun a b : EReal => a + b) rfl ?_
    unfold blockAdd
    rw [dif_pos hn]

/-- After the last block a pixel holds the clipped sum of all the blocks. -/
theorem outs_last (ch : Fin 3) (p : Fin 65536) (t : Fin cfg1.N) (ht : t.val = 79) :
    (outsAt1 V c t.val t.isLt (ix2 ch p) : EReal) = min 1 (max 0 (∑ b ∈ Finset.range 80, blockAdd V c ch p b)) := by
  obtain ⟨n, hn⟩ := t
  obtain rfl : n = 79 := ht
  have ih := outs_sum V c ch p 78 (Nat.lt_of_succ_lt hn) (by omega)
  refine (congrFun (outsAt1_C V c ⟨79, hn⟩ (by show ¬ 79 % 80 = 0; omega) (by show 79 % 80 = 79; omega)) (ix2 ch p)).trans ?_
  rw [outC_apply, Finset.sum_range_succ, ← ih]
  refine congrArg (fun z : EReal => min (1 : EReal) (max 0 z)) (congrArg₂ (fun a b : EReal => a + b) rfl ?_)
  unfold blockAdd
  rw [dif_pos hn]

/-- A block of the weights at an index is the array at the block's rows. -/
theorem blk_w (t : Fin cfg1.N) (k : Fin 128) (j : Fin 256) (n : Fin 10240) (hn : n.val = 128 * t.val + k.val) :
    (iblk1 V c 0 t : FVec Ideal S128x256 .f32) (ix2 k j) = (V c main_v22_0 : FVec Ideal S10240x256 .f32) (ix2 n j) := by
  blk_ext [iblk1, idx t]

/-- A block of the multipliers at an index is the array at the block's rows. -/
theorem blk_m (t : Fin cfg1.N) (k : Fin 128) (j : Fin 256) (n : Fin 10240) (hn : n.val = 128 * t.val + k.val) :
    (iblk1 V c 1 t : FVec Ideal S128x256 .f32) (ix2 k j) = (V c main_v22_1 : FVec Ideal S10240x256 .f32) (ix2 n j) := by
  blk_ext [iblk1, idx t]

/-- A block of the ratios at an index is the array at the block's rows. -/
theorem blk_r (t : Fin cfg1.N) (k : Fin 128) (j : Fin 256) (n : Fin 10240) (hn : n.val = 128 * t.val + k.val) :
    (iblk1 V c 2 t : FVec Ideal S128x256 .f32) (ix2 k j) = (V c main_v22_2 : FVec Ideal S10240x256 .f32) (ix2 n j) := by
  blk_ext [iblk1, idx t]

/-- A block of the amplitudes at an index is the array at the block's columns. -/
theorem blk_a (t : Fin cfg1.N) (ch : Fin 3) (k : Fin 128) (n : Fin 10240) (hn : n.val = 128 * t.val + k.val) :
    (iblk1 V c 3 t : FVec Ideal S3x128 .bf16) (ix2 ch k) = (V c main_v22_3 : FVec Ideal S3x10240 .bf16) (ix2 ch n) := by
  blk_ext [iblk1, idx t]

/-- Point `k` of block `b`. -/
def ptOf (b : Fin 80) (k : Fin 128) : Fin 10240 := ⟨128 * b.val + k.val, by have := b.isLt; have := k.isLt; omega⟩

/-- A sum over blocks and the points of each is a sum over all points. -/
theorem sum_points (f : Fin 10240 → EReal) : ∑ b : Fin 80, ∑ k : Fin 128, f (ptOf b k) = ∑ n : Fin 10240, f n := by
  rw [← Fintype.sum_prod_type' (fun (b : Fin 80) (k : Fin 128) => f (ptOf b k))]
  rw [← Equiv.sum_comp (finProdFinEquiv : Fin 80 × Fin 128 ≃ Fin 10240) f]
  refine Finset.sum_congr rfl fun q _ => congrArg f (Fin.ext ?_)
  show 128 * q.1.val + q.2.val = q.2.val + 128 * q.1.val
  omega

/-- The blocks' contributions to a pixel sum to the points' terms. -/
theorem sum_blocks (ch : Fin 3) (p : Fin 65536) : ∑ b ∈ Finset.range 80, blockAdd V c ch p b
    = ∑ n : Fin 10240, term (V c main_v22_0) (V c main_v22_1) (V c main_v22_2) (V c main_v22_3) ch p n := by
  rw [← sum_points, ← Fin.sum_univ_eq_sum_range (fun b => blockAdd V c ch p b) 80]
  refine Finset.sum_congr rfl fun b _ => ?_
  have hb : b.val < cfg1.N := lt_of_lt_of_eq b.isLt (show 80 = cfg1.N from N_1.symm)
  unfold blockAdd
  rw [dif_pos hb]
  unfold contrib term
  refine Finset.sum_congr rfl fun k _ => ?_
  rw [← blk_w V c ⟨b.val, hb⟩ k (colOf p) (ptOf b k) rfl, ← blk_m V c ⟨b.val, hb⟩ k (colOf p) (ptOf b k) rfl,
    ← blk_r V c ⟨b.val, hb⟩ k (colOf p) (ptOf b k) rfl, ← blk_a V c ⟨b.val, hb⟩ ch k (ptOf b k) rfl]
  rfl

/-- The raster call's result array. -/
theorem final : (dat1 V c).arrAt 4 cfg1.N = rasterOut (V c main_v22_0) (V c main_v22_1) (V c main_v22_2) (V c main_v22_3) := by
  refine (dat1 V c).arrAt_eq_of_covers 4 _ (by decide +kernel) fun t hf y => ?_
  have ht : t.val = 79 := by
    have h1 := (flush1_4 t).mp hf
    have h2 : t.val < 80 := lt_of_lt_of_eq t.isLt N_1
    omega
  blk_simp
  rw [after1_4]
  have hy : ∀ z : S3x65536.Idx, (outsAt1 V c t.val t.isLt z : EReal)
      = rasterOut (V c main_v22_0) (V c main_v22_1) (V c main_v22_2) (V c main_v22_3) z := by
    intro z
    obtain ⟨ch, p, rfl⟩ : ∃ (ch : Fin 3) (p : Fin 65536), z = ix2 ch p := ⟨z 0, z 1, eq_ix2 z⟩
    refine (outs_last V c ch p t ht).trans ?_
    rw [sum_blocks]
    rfl
  refine (hy y).trans (congrArg (rasterOut (V c main_v22_0) (V c main_v22_1) (V c main_v22_2) (V c main_v22_3)) ?_)
  blk_ext [idx t]

end Cert.KernelIdeal.Raster

end
-- ==== Proof.PrepDef.lean ====
/-
  What the prep call stores for one chunk of 128 points: the first row's weights, the first multiplier and the ratio, at
  each of the 256 columns.
-/
module

public import proofs.«01_k».proof.Proof.Gen.KernelIdeal.Frame.Region0
public import Idealize.ShloMosaic.Lib.WritesUnit

@[expose] public section

set_option maxRecDepth 16384

noncomputable section

namespace Cert.KernelIdeal.Prep

open Idealize.ShloMosaic Idealize.ShloMosaic.TcCoe Idealize.ShloMosaic.Tactic
open Cert.KernelIdeal Cert.KernelIdeal.Gen

variable {F : FTy → Type} [FloatOps F] [Named F]

/-- Row 0 of chunk `k` lies within a two-row array. -/
theorem sl20 (k : Fin 80) : S2x10240.Slices ![0, 128 * k.val] S1x128 :=
  ⟨rfl, Fin.forall_fin_two.mpr ⟨by show 0 + 1 ≤ 2; decide, by have := k.isLt; show 128 * k.val + 128 ≤ 10240; omega⟩⟩

/-- Row 1 of chunk `k` lies within a two-row array. -/
theorem sl21 (k : Fin 80) : S2x10240.Slices ![1, 128 * k.val] S1x128 :=
  ⟨rfl, Fin.forall_fin_two.mpr ⟨by show 1 + 1 ≤ 2; decide, by have := k.isLt; show 128 * k.val + 128 ≤ 10240; omega⟩⟩

/-- Chunk `k` lies within a one-row array. -/
theorem sl10 (k : Fin 80) : S1x10240.Slices ![0, 128 * k.val] S1x128 :=
  ⟨rfl, Fin.forall_fin_two.mpr ⟨by show 0 + 1 ≤ 1; decide, by have := k.isLt; show 128 * k.val + 128 ≤ 10240; omega⟩⟩

/-- Chunk `k`'s rows lie within an output. -/
theorem inbChunk (k : Fin 80) : ∀ a, (![128 * k.val, 0] : Fin 2 → ℕ) a + S128x256.size a ≤ S10240x256.size a :=
  Fin.forall_fin_two.mpr ⟨by have := k.isLt; show 128 * k.val + 128 ≤ 10240; omega, le_refl _⟩

section Chunk

variable (k : Fin 80) (xy : FVec F S2x10240 .f32) (a b cc : FVec F S1x10240 .f32) (gx : FVec F S1x256 .f32)

/-- Chunk `k`'s horizontal positions, a column. -/
def cX : FVec F S128x1 .f32 := shapeCast S128x1 (extractStridedSlice S1x128 ![0, 128 * k.val] xy (sl20 k)) shapeCasts_S1x128_S128x1
/-- Chunk `k`'s vertical positions, a column. -/
def cY : FVec F S128x1 .f32 := shapeCast S128x1 (extractStridedSlice S1x128 ![1, 128 * k.val] xy (sl21 k)) shapeCasts_S1x128_S128x1
/-- Chunk `k` of a coefficient, a column. -/
def cP (p : FVec F S1x10240 .f32) : FVec F S128x1 .f32 :=
  shapeCast S128x1 (extractStridedSlice S1x128 ![0, 128 * k.val] p (sl10 k)) shapeCasts_S1x128_S128x1

/-- The horizontal distances from chunk `k`'s points to the columns. -/
def cDx : FVec F S128x256 .f32 :=
  subf (broadcastTo S128x256 gx broadcasts_S1x256_S128x256) (broadcastTo S128x256 (cX k xy) broadcasts_S128x1_S128x256)

/-- The quadratic's constant coefficient. -/
def cU0 : FVec F S128x256 .f32 :=
  addf (mulf (subf (mulf (broadcastTo S128x256 (cP k a) broadcasts_S128x1_S128x256) (cDx k xy gx))
      (broadcastTo S128x256 (mulf (cP k b) (cY k xy)) broadcasts_S128x1_S128x256)) (cDx k xy gx))
    (broadcastTo S128x256 (mulf (cP k cc) (mulf (cY k xy) (cY k xy))) broadcasts_S128x1_S128x256)

/-- The quadratic's linear coefficient. -/
def cU1 : FVec F S128x256 .f32 :=
  subf (mulf (broadcastTo S128x256 (cP k b) broadcasts_S128x1_S128x256) (cDx k xy gx))
    (broadcastTo S128x256 (mulf (mulf (broadcast S128x1 (Scalar.ofBits .f32 0x40000000#32)) (cP k cc)) (cY k xy)) broadcasts_S128x1_S128x256)

/-- The quadratic's leading coefficient. -/
def cU2 : FVec F S128x256 .f32 :=
  addf (broadcastTo S128x256 (cP k cc) broadcasts_S128x1_S128x256)
    (mulf (broadcast S128x256 (Scalar.ofBits .f32 0x00000000#32)) (cDx k xy gx))

/-- The first row's weights. -/
def cW : FVec F S128x256 .f32 :=
  exp2 (addf (cU0 k xy a b cc gx) (mulf (broadcast S128x256 (Scalar.ofBits .f32 0xBF7F0000#32))
    (addf (cU1 k xy b cc gx) (mulf (broadcast S128x256 (Scalar.ofBits .f32 0xBF7F0000#32)) (cU2 k xy cc gx)))))

/-- The first row's multipliers. -/
def cM : FVec F S128x256 .f32 :=
  exp2 (addf (addf (mulf (broadcast S128x256 (Scalar.ofBits .f32 0x3C000000#32)) (cU1 k xy b cc gx))
      (mulf (broadcast S128x256 (Scalar.ofBits .f32 0x38800000#32)) (cU2 k xy cc gx)))
    (mulf (broadcast S128x256 (Scalar.ofBits .f32 0xBC7F0000#32)) (cU2 k xy cc gx)))

/-- The multipliers' ratio from a row to the next. -/
def cR : FVec F S128x256 .f32 :=
  exp2 (mulf (broadcast S128x256 (Scalar.ofBits .f32 0x39000000#32)) (cU2 k xy cc gx))

end Chunk

section Coef

variable (x0 : Vec F S2x10240 .f32) (x1 : Vec F S2x10240 .f32) (x2 : Vec F S1x10240 .f32) (x6 : Vec F S1x256 .f32)

/-- The points' positions. -/
def pXY : FVec F S2x10240 .f32 := k0_pay4 (View.ld x0 r0_0)
/-- The coefficient of the squared horizontal distance. -/
def pA : FVec F S1x10240 .f32 :=
  k0_pay17 (k0_pay8 (View.ld x2 r0_1)) (k0_pay9 (View.ld x2 r0_1)) (k0_pay10 (View.ld x1 r0_0)) (k0_pay11 (View.ld x1 r0_0)) (k0_pay12 (View.ld x1 r0_0) (View.ld x2 r0_1))
/-- The coefficient of the distances' product. -/
def pB : FVec F S1x10240 .f32 :=
  k0_pay18 (k0_pay8 (View.ld x2 r0_1)) (k0_pay9 (View.ld x2 r0_1)) (k0_pay10 (View.ld x1 r0_0)) (k0_pay11 (View.ld x1 r0_0)) (k0_pay12 (View.ld x1 r0_0) (View.ld x2 r0_1))
/-- The coefficient of the squared vertical distance. -/
def pC : FVec F S1x10240 .f32 :=
  k0_pay19 (k0_pay8 (View.ld x2 r0_1)) (k0_pay9 (View.ld x2 r0_1)) (k0_pay10 (View.ld x1 r0_0)) (k0_pay11 (View.ld x1 r0_0)) (k0_pay12 (View.ld x1 r0_0) (View.ld x2 r0_1))
/-- The columns' coordinates. -/
def pG : FVec F S1x256 .f32 := k0_pay20 (View.ld x6 r0_3)

/-- One stored value of every chunk, as a list of row blocks. -/
def chunks (P : Fin 80 → FVec F S128x256 .f32) : List (View.Piece (Elt F) S10240x256 .f32) :=
  View.tilePieces (Val := Elt F) (s := S10240x256) (e := .f32) S128x256.size (fun k : Fin 80 => ![128 * k.val, 0]) inbChunk P 80 (le_refl _)

end Coef

end Cert.KernelIdeal.Prep

end
-- ==== Proof.PrepList.lean ====
/-
  The three arrays of 256 columns that the prep call stores, chunk by chunk.
-/
module

public import proofs.«01_k».proof.Proof.PrepDef

@[expose] public section

set_option maxRecDepth 16384

noncomputable section

namespace Cert.KernelIdeal.Prep

open Idealize.ShloMosaic Idealize.ShloMosaic.TcCoe Idealize.ShloMosaic.Tactic
open Cert.KernelIdeal Cert.KernelIdeal.Gen

variable {F : FTy → Type} [FloatOps F] [Named F]
variable (x0 : Vec F S2x10240 .f32) (x1 : Vec F S2x10240 .f32) (x2 : Vec F S1x10240 .f32) (x3 : Vec F S3x10240 .f32) (x4 : Vec F S2x10240 .f32) (x5 : Vec F S1x10240 .f32) (x6 : Vec F S1x256 .f32)

/-- The first output holds every chunk's first-row weights. -/
theorem out7 : out0_7 x0 x1 x2 x3 x4 x5 x6
    = View.canon (chunks fun k => cW k (pXY x0) (pA x1 x2) (pB x1 x2) (pC x1 x2) (pG x6)) := by
  sl_kernel_rfl

/-- The second output holds every chunk's first multipliers. -/
theorem out8 : out0_8 x0 x1 x2 x3 x4 x5 x6
    = View.canon (chunks fun k => cM k (pXY x0) (pB x1 x2) (pC x1 x2) (pG x6)) := by
  sl_kernel_rfl

/-- The third output holds every chunk's ratios. -/
theorem out9 : out0_9 x0 x1 x2 x3 x4 x5 x6
    = View.canon (chunks fun k => cR k (pXY x0) (pC x1 x2) (pG x6)) := by
  sl_kernel_rfl

end Cert.KernelIdeal.Prep

end
-- ==== Proof.Scalar.lean ====
/-
  The kernel's arithmetic on one point and one column, as functions of extended reals.
-/
module

public import proofs.«01_k».proof.KernelIdeal
public import Idealize.ShloMosaic.PureOps.Ideal

@[expose] public section

noncomputable section

namespace Cert.Splat

open Idealize.ShloMosaic

/-- The rotation's angle: a sigmoid times 2π as the program rounds it. -/
def angle (r : EReal) : EReal := Ideal.logistic r * Ideal.ofBits .f32 1086918619#32

/-- An axis's variance: the squared magnitude of the raw scale plus a half, plus 1e-8. -/
def var (s : EReal) : EReal :=
  max (s + Ideal.ofBits .f32 1056964608#32) (-(s + Ideal.ofBits .f32 1056964608#32))
    * max (s + Ideal.ofBits .f32 1056964608#32) (-(s + Ideal.ofBits .f32 1056964608#32)) + Ideal.ofBits .f32 841731191#32

/-- The covariance's first diagonal entry, of the cosine, the sine and the two variances. -/
def covA (c s p q : EReal) : EReal := c * c * p + s * s * q
/-- The covariance's off-diagonal entry. -/
def covB (c s p q : EReal) : EReal := c * s * (p - q)
/-- The covariance's second diagonal entry. -/
def covC (c s p q : EReal) : EReal := s * s * p + c * c * q
/-- The determinant plus 1e-12. -/
def det (c s p q : EReal) : EReal :=
  covA c s p q * covC c s p q - covB c s p q * covB c s p q + Ideal.ofBits .f32 730643660#32

/-- The coordinate of column or row `j`: `j` plus a half, over 256, times two, minus one. -/
def coord (j : ℕ) : EReal :=
  Ideal.div ((FloatOps.sitofp .f32 (BitVec.ofNat 32 j) : Ideal .f32) + Ideal.ofBits .f32 1056964608#32) (Ideal.ofBits .f32 1132462080#32)
    * Ideal.ofBits .f32 1073741824#32 - 1

/-- The kernel's coefficient of the squared horizontal distance. -/
def kA (c s p q : EReal) : EReal :=
  Ideal.div (Named.named (F := Ideal) Cert.KernelIdeal.κ "neg_half_log2e" (φ := .f32) 3208161851#32 * covC c s p q) (det c s p q)
/-- The kernel's coefficient of the distances' product. -/
def kB (c s p q : EReal) : EReal :=
  Ideal.div (Named.named (F := Ideal) Cert.KernelIdeal.κ "log2e" (φ := .f32) 1069066811#32 * covB c s p q) (det c s p q)
/-- The kernel's coefficient of the squared vertical distance. -/
def kC (c s p q : EReal) : EReal :=
  Ideal.div (Named.named (F := Ideal) Cert.KernelIdeal.κ "neg_half_log2e" (φ := .f32) 3208161851#32 * covA c s p q) (det c s p q)

/-- The exponent's constant coefficient in the row coordinate, of the coefficients, the horizontal distance and the
    point's vertical position. -/
def u0 (a b k d y : EReal) : EReal := (a * d - b * y) * d + k * (y * y)
/-- The exponent's linear coefficient. -/
def u1 (b k d y : EReal) : EReal := b * d - Ideal.ofBits .f32 1073741824#32 * k * y
/-- The exponent's leading coefficient. -/
def u2 (k d : EReal) : EReal := k + 0 * d

/-- The first row's weight. -/
def kW (a b k d y : EReal) : EReal :=
  Ideal.exp2 (u0 a b k d y + Ideal.ofBits .f32 3212771328#32 * (u1 b k d y + Ideal.ofBits .f32 3212771328#32 * u2 k d))
/-- The first multiplier. -/
def kM (b k d y : EReal) : EReal :=
  Ideal.exp2 (Ideal.ofBits .f32 1006632960#32 * u1 b k d y + Ideal.ofBits .f32 947912704#32 * u2 k d
    + Ideal.ofBits .f32 3162439680#32 * u2 k d)
/-- The multipliers' ratio from a row to the next. -/
def kR (k d : EReal) : EReal := Ideal.exp2 (Ideal.ofBits .f32 956301312#32 * u2 k d)

/-- The reference's angle: a sigmoid times two, times π as the program rounds it. -/
def rAngle (r : EReal) : EReal :=
  Ideal.logistic r * Ideal.ofBits .f32 1073741824#32 * Ideal.ofBits .f32 1078530011#32

/-- The reference's inverse covariance: its first diagonal entry. -/
def rA (c s p q : EReal) : EReal := Ideal.div (covC c s p q) (det c s p q)
/-- Its off-diagonal entry. -/
def rB (c s p q : EReal) : EReal := Ideal.div (-covB c s p q) (det c s p q)
/-- Its second diagonal entry. -/
def rC (c s p q : EReal) : EReal := Ideal.div (covA c s p q) (det c s p q)

/-- The reference's weight, of the inverse covariance's entries and the two distances. -/
def rW (a b k dx dy : EReal) : EReal :=
  Ideal.exp (Ideal.ofBits .f32 3204448256#32 * (a * dx * dx + Ideal.ofBits .f32 1073741824#32 * b * dx * dy + k * dy * dy))

end Cert.Splat

end
-- ==== Proof.PrepArr.lean ====
/-
  The prep call's four arrays over the extended reals, entry by entry.
-/
module

public import proofs.«01_k».proof.Proof.PrepList
public import proofs.«01_k».proof.Proof.Scalar
public import Idealize.ShloMosaic.Lib.Pipeline.ValueKit

@[expose] public section

set_option maxRecDepth 16384

noncomputable section

namespace Cert.KernelIdeal.Prep

open Idealize.ShloMosaic Idealize.ShloMosaic.TcCoe Idealize.ShloMosaic.Tactic
open Idealize.ShloMosaic.Pipeline (Dat)
open Cert.KernelIdeal Cert.KernelIdeal.Gen Cert.Splat

/-- Row `n`'s chunk. -/
def chunkOf (n : Fin 10240) : Fin 80 := ⟨n.val / 128, by have := n.isLt; omega⟩
/-- Row `n`'s place in its chunk. -/
def laneOf (n : Fin 10240) : Fin 128 := ⟨n.val % 128, Nat.mod_lt _ (by decide)⟩

/-- A list of chunks read at a row is the row's chunk at its place. -/
theorem canon_chunks (P : Fin 80 → FVec Ideal S128x256 .f32) (n : Fin 10240) (j : Fin 256) :
    (View.canon (chunks P) : FVec Ideal S10240x256 .f32) (ix2 n j) = P (chunkOf n) (ix2 (laneOf n) j) := by
  have hn : 128 * (n.val / 128) + n.val % 128 = n.val := Nat.div_add_mod n.val 128
  rw [← View.read_writes_junk_apply_eq_canon (Val := Elt Ideal) (Memref.whole main_v22_0).view (ix2 n j) (chunks P)]
  have hx : ∀ a : Fin 2, (ix2 n j a).val = (![128 * (chunkOf n).val, 0] : Fin 2 → ℕ) a + (ix2 (laneOf n) j a).val :=
    Fin.forall_fin_two.mpr ⟨hn.symm, (Nat.zero_add _).symm⟩
  have hd : ∀ i : Fin 80, i ≠ chunkOf n → n.val < 128 * i.val ∨ 128 * i.val + 128 ≤ n.val := fun i hi => by
    have hne : i.val ≠ n.val / 128 := fun h => hi (Fin.ext h)
    omega
  exact View.read_tilePieces (Val := Elt Ideal) (s := S10240x256) (e := .f32) (Memref.whole main_v22_0).view _ S128x256.size
    (fun k : Fin 80 => ![128 * k.val, 0]) inbChunk P 80 (le_refl _) (ix2 n j) (chunkOf n) (chunkOf n).isLt (ix2 (laneOf n) j) hx 0 hd

section Chunk

variable (k : Fin 80) (xy : FVec Ideal S2x10240 .f32) (a b cc : FVec Ideal S1x10240 .f32) (gx : FVec Ideal S1x256 .f32)
variable (i : Fin 128) (j : Fin 256) (n : Fin 10240) (hn : n.val = 128 * k.val + i.val)

include hn

/-- A chunk's first-row weight at a point and a column. -/
theorem cW_apply : cW k xy a b cc gx (ix2 i j)
    = kW (a (ix2 0 n)) (b (ix2 0 n)) (cc (ix2 0 n)) ((gx (ix2 0 j) : EReal) - xy (ix2 0 n)) (xy (ix2 1 n)) := by
  obtain ⟨n, hlt⟩ := n
  obtain rfl : n = 128 * k.val + i.val := hn
  pointwise [cW, cU0, cU1, cU2, cDx, cX, cY, cP]
  rfl

/-- A chunk's first multiplier at a point and a column. -/
theorem cM_apply : cM k xy b cc gx (ix2 i j)
    = kM (b (ix2 0 n)) (cc (ix2 0 n)) ((gx (ix2 0 j) : EReal) - xy (ix2 0 n)) (xy (ix2 1 n)) := by
  obtain ⟨n, hlt⟩ := n
  obtain rfl : n = 128 * k.val + i.val := hn
  pointwise [cM, cU1, cU2, cDx, cX, cY, cP]
  rfl

/-- A chunk's ratio at a point and a column. -/
theorem cR_apply : cR k xy cc gx (ix2 i j) = kR (cc (ix2 0 n)) ((gx (ix2 0 j) : EReal) - xy (ix2 0 n)) := by
  obtain ⟨n, hlt⟩ := n
  obtain rfl : n = 128 * k.val + i.val := hn
  pointwise [cR, cU2, cDx, cX, cP]
  rfl

end Chunk

section Coef

variable (x0 : Vec Ideal S2x10240 .f32) (x1 : Vec Ideal S2x10240 .f32) (x2 : Vec Ideal S1x10240 .f32) (x3 : Vec Ideal S3x10240 .f32)
  (x4 : Vec Ideal S2x10240 .f32) (x5 : Vec Ideal S1x10240 .f32) (x6 : Vec Ideal S1x256 .f32) (n : Fin 10240) (j : Fin 256)

/-- A position. -/
theorem pXY_apply (i : Fin 2) : pXY x0 (ix2 i n) = Ideal.tanh (x0 (ix2 i n)) := by
  pointwise [pXY, k0_pay4]

/-- A column's coordinate. -/
theorem pG_apply : pG x6 (ix2 0 j) = x6 (ix2 0 j) := by
  pointwise [pG, k0_pay20]

/-- A point's coefficient of the squared horizontal distance. -/
theorem pA_apply : pA x1 x2 (ix2 0 n) = kA (Ideal.cos (angle (x2 (ix2 0 n)))) (Ideal.sin (angle (x2 (ix2 0 n))))
    (var (x1 (ix2 0 n))) (var (x1 (ix2 1 n))) := by
  pointwise [pA, k0_pay17, k0_pay16, k0_pay15, k0_pay14, k0_pay13, k0_pay12, k0_pay11, k0_pay10, k0_pay9, k0_pay8, k0_pay6, k0_pay5]
  rfl

/-- A point's coefficient of the distances' product. -/
theorem pB_apply : pB x1 x2 (ix2 0 n) = kB (Ideal.cos (angle (x2 (ix2 0 n)))) (Ideal.sin (angle (x2 (ix2 0 n))))
    (var (x1 (ix2 0 n))) (var (x1 (ix2 1 n))) := by
  pointwise [pB, k0_pay18, k0_pay16, k0_pay15, k0_pay14, k0_pay13, k0_pay12, k0_pay11, k0_pay10, k0_pay9, k0_pay8, k0_pay6, k0_pay5]
  rfl

/-- A point's coefficient of the squared vertical distance. -/
theorem pC_apply : pC x1 x2 (ix2 0 n) = kC (Ideal.cos (angle (x2 (ix2 0 n)))) (Ideal.sin (angle (x2 (ix2 0 n))))
    (var (x1 (ix2 0 n))) (var (x1 (ix2 1 n))) := by
  pointwise [pC, k0_pay19, k0_pay16, k0_pay15, k0_pay14, k0_pay13, k0_pay12, k0_pay11, k0_pay10, k0_pay9, k0_pay8, k0_pay6, k0_pay5]
  rfl

/-- A point's amplitude in a channel. -/
theorem amp_apply (ch : Fin 3) : (k0_pay7 x4 x3 x5 (ix2 ch n) : EReal)
    = (x3 (ix2 ch n) : EReal) * x5 (ix2 0 n) * (Ideal.exp (x4 (ix2 0 n)) * Ideal.exp (x4 (ix2 1 n))) := by
  pointwise [k0_pay7]

end Coef

end Cert.KernelIdeal.Prep

end
-- ==== Proof.PrepFinal.lean ====
/-
  What the prep call leaves in its four result arrays.
-/
module

public import proofs.«01_k».proof.Proof.PrepArr

@[expose] public section

set_option maxRecDepth 16384

noncomputable section

namespace Cert.KernelIdeal.Prep

open Idealize.ShloMosaic Idealize.ShloMosaic.TcCoe Idealize.ShloMosaic.Tactic
open Idealize.ShloMosaic.Pipeline (Dat)
open Cert.KernelIdeal Cert.KernelIdeal.Gen Cert.Splat

variable (V : (c : Dev nD) → (b : Ref sig .tc) → Buf (Elt Ideal) ((c : Thread nD τ).loc b)) (c : Dev nD)

/-- Each input window's block index is zero. -/
theorem idx0 : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

/-- Each input window's block is its whole array. -/
theorem blk0 : iblk0 V c 0 t0_0 = V c main_v1 := funext fun y => by blk_ext [iblk0, idx0 t0_0]
theorem blk1 : iblk0 V c 1 t0_0 = V c main_v3 := funext fun y => by blk_ext [iblk0, idx0 t0_0]
theorem blk2 : iblk0 V c 2 t0_0 = V c main_v5 := funext fun y => by blk_ext [iblk0, idx0 t0_0]
theorem blk3 : iblk0 V c 3 t0_0 = V c main_v7 := funext fun y => by blk_ext [iblk0, idx0 t0_0]
theorem blk4 : iblk0 V c 4 t0_0 = V c main_v9 := funext fun y => by blk_ext [iblk0, idx0 t0_0]
theorem blk5 : iblk0 V c 5 t0_0 = V c main_v11 := funext fun y => by blk_ext [iblk0, idx0 t0_0]
theorem blk6 : iblk0 V c 6 t0_0 = V c main_v21 := funext fun y => by blk_ext [iblk0, idx0 t0_0]

/-- The first result array is the body's first output of the whole inputs. -/
theorem arr7 : (dat0 V c).arrAt 7 cfg0.N
    = out0_7 (V c main_v1) (V c main_v3) (V c main_v5) (V c main_v7) (V c main_v9) (V c main_v11) (V c main_v21) := by
  refine (dat0 V c).arrAt_eq_of_after_last 7 t0_0 (by decide +kernel) _ fun j => ?_
  blk_simp
  rw [after0_7, blk0, blk1, blk2, blk3, blk4, blk5, blk6]

/-- The second result array is the body's second output of the whole inputs. -/
theorem arr8 : (dat0 V c).arrAt 8 cfg0.N
    = out0_8 (V c main_v1) (V c main_v3) (V c main_v5) (V c main_v7) (V c main_v9) (V c main_v11) (V c main_v21) := by
  refine (dat0 V c).arrAt_eq_of_after_last 8 t0_0 (by decide +kernel) _ fun j => ?_
  blk_simp
  rw [after0_8, blk0, blk1, blk2, blk3, blk4, blk5, blk6]

/-- The third result array is the body's third output of the whole inputs. -/
theorem arr9 : (dat0 V c).arrAt 9 cfg0.N
    = out0_9 (V c main_v1) (V c main_v3) (V c main_v5) (V c main_v7) (V c main_v9) (V c main_v11) (V c main_v21) := by
  refine (dat0 V c).arrAt_eq_of_after_last 9 t0_0 (by decide +kernel) _ fun j => ?_
  blk_simp
  rw [after0_9, blk0, blk1, blk2, blk3, blk4, blk5, blk6]

/-- The fourth result array is the body's fourth output of the whole inputs. -/
theorem arr10 : (dat0 V c).arrAt 10 cfg0.N
    = out0_10 (V c main_v1) (V c main_v3) (V c main_v5) (V c main_v7) (V c main_v9) (V c main_v11) (V c main_v21) := by
  refine (dat0 V c).arrAt_eq_of_after_last 10 t0_0 (by decide +kernel) _ fun j => ?_
  blk_simp
  rw [after0_10, blk0, blk1, blk2, blk3, blk4, blk5, blk6]

section Entries

variable (n : Fin 10240) (j : Fin 256) (ch : Fin 3)

/-- A point's cosine, sine and variances, from the rotations and the scales. -/
def kCos (rot : FVec Ideal S1x10240 .f32) (n : Fin 10240) : EReal := Ideal.cos (angle (rot (ix2 0 n)))
def kSin (rot : FVec Ideal S1x10240 .f32) (n : Fin 10240) : EReal := Ideal.sin (angle (rot (ix2 0 n)))
def kVar (sc : FVec Ideal S2x10240 .f32) (i : Fin 2) (n : Fin 10240) : EReal := var (sc (ix2 i n))

variable (xy sc : FVec Ideal S2x10240 .f32) (rot : FVec Ideal S1x10240 .f32) (fdc : FVec Ideal S3x10240 .f32)
  (nf : FVec Ideal S2x10240 .f32) (op : FVec Ideal S1x10240 .f32) (gx : FVec Ideal S1x256 .f32)
  (h0 : V c main_v1 = xy) (h1 : V c main_v3 = sc) (h2 : V c main_v5 = rot) (h3 : V c main_v7 = fdc)
  (h4 : V c main_v9 = nf) (h5 : V c main_v11 = op) (h6 : V c main_v21 = gx)

include h0 h1 h2 h6

/-- The first array holds the first row's weights. -/
theorem final7 : ((dat0 V c).arrAt 7 cfg0.N : FVec Ideal S10240x256 .f32) (ix2 n j)
    = kW (kA (kCos rot n) (kSin rot n) (kVar sc 0 n) (kVar sc 1 n)) (kB (kCos rot n) (kSin rot n) (kVar sc 0 n) (kVar sc 1 n))
        (kC (kCos rot n) (kSin rot n) (kVar sc 0 n) (kVar sc 1 n)) ((gx (ix2 0 j) : EReal) - Ideal.tanh (xy (ix2 0 n)))
        (Ideal.tanh (xy (ix2 1 n))) := by
  rw [arr7, out7, canon_chunks, cW_apply _ _ _ _ _ _ _ _ n (Nat.div_add_mod n.val 128).symm, pA_apply, pB_apply,
    pC_apply, pG_apply, pXY_apply, pXY_apply, h0, h1, h2, h6]
  rfl

/-- The second array holds the first multipliers. -/
theorem final8 : ((dat0 V c).arrAt 8 cfg0.N : FVec Ideal S10240x256 .f32) (ix2 n j)
    = kM (kB (kCos rot n) (kSin rot n) (kVar sc 0 n) (kVar sc 1 n)) (kC (kCos rot n) (kSin rot n) (kVar sc 0 n) (kVar sc 1 n))
        ((gx (ix2 0 j) : EReal) - Ideal.tanh (xy (ix2 0 n))) (Ideal.tanh (xy (ix2 1 n))) := by
  rw [arr8, out8, canon_chunks, cM_apply _ _ _ _ _ _ _ n (Nat.div_add_mod n.val 128).symm, pB_apply,
    pC_apply, pG_apply, pXY_apply, pXY_apply, h0, h1, h2, h6]
  rfl

/-- The third array holds the multipliers' ratios. -/
theorem final9 : ((dat0 V c).arrAt 9 cfg0.N : FVec Ideal S10240x256 .f32) (ix2 n j)
    = kR (kC (kCos rot n) (kSin rot n) (kVar sc 0 n) (kVar sc 1 n)) ((gx (ix2 0 j) : EReal) - Ideal.tanh (xy (ix2 0 n))) := by
  rw [arr9, out9, canon_chunks, cR_apply _ _ _ _ _ _ n (Nat.div_add_mod n.val 128).symm,
    pC_apply, pG_apply, pXY_apply, h0, h1, h2, h6]
  rfl

omit h0 h1 h2 h6 in
include h3 h4 h5 in
/-- The fourth array holds the amplitudes. -/
theorem final10 : (((dat0 V c).arrAt 10 cfg0.N : FVec Ideal S3x10240 .bf16) (ix2 ch n) : EReal)
    = (fdc (ix2 ch n) : EReal) * op (ix2 0 n) * (Ideal.exp (nf (ix2 0 n)) * Ideal.exp (nf (ix2 1 n))) := by
  rw [arr10, h3, h4, h5]
  frame_out
  exact amp_apply _ _ _ n ch

end Entries

end Cert.KernelIdeal.Prep

end
-- ==== Proof.HostIn.lean ====
/-
  What the host operations before the prep call leave in its seven inputs.
-/
module

public import proofs.«01_k».proof.Proof.Gen.KernelIdeal.Frame.Fold0
public import proofs.«01_k».proof.Proof.Scalar
public import Idealize.ShloMosaic.Lib.Claim
public import Idealize.ShloMosaic.Lib.Pointwise

@[expose] public section

set_option maxRecDepth 16384

noncomputable section

namespace Cert.KernelIdeal.HostIn

open Idealize.ShloMosaic Idealize.ShloMosaic.TcCoe Idealize.ShloMosaic.Tactic
open Cert.KernelIdeal Cert.KernelIdeal.Gen

section Terms

variable {F : FTy → Type} [FloatOps F] [Named F]

/-- The padding value: the integer zero converted. -/
def hZero : FVec F S_ .f32 := sitofp .f32 (constantI S_ 32 0#32)

/-- An argument of one column, padded to 10240 rows and transposed. -/
def hT1 (x : FVec F S10000x1 .f32) : FVec F S1x10240 .f32 :=
  transpose S1x10240 [1, 0] (pad S10240x1 ![0, 0] ![240, 0] ![0, 0] x hZero pads_S10000x1_S10240x1_02400_000 h_S_) transposes_S10240x1_S1x10240_1_0
/-- An argument of two columns, padded to 10240 rows and transposed. -/
def hT2 (x : FVec F S10000x2 .f32) : FVec F S2x10240 .f32 :=
  transpose S2x10240 [1, 0] (pad S10240x2 ![0, 0] ![240, 0] ![0, 0] x hZero pads_S10000x2_S10240x2_02400_000 h_S_) transposes_S10240x2_S2x10240_1_0
/-- An argument of three columns, padded to 10240 rows and transposed. -/
def hT3 (x : FVec F S10000x3 .f32) : FVec F S3x10240 .f32 :=
  transpose S3x10240 [1, 0] (pad S10240x3 ![0, 0] ![240, 0] ![0, 0] x hZero pads_S10000x3_S10240x3_02400_000 h_S_) transposes_S10240x3_S3x10240_1_0

/-- The columns' coordinates: the column plus a half, over 256, times two, minus one. -/
def hG : FVec F S1x256 .f32 :=
  shapeCast S1x256
    (subf (mulf (Host.divf (addf (sitofp .f32 (iotaInDim S256 32 0)) (broadcastInDim S256 ![] bcast_S_S256 (constant S_ .f32 0x3F000000#32)))
        (broadcastInDim S256 ![] bcast_S_S256 (constant S_ .f32 0x43800000#32)))
      (broadcastInDim S256 ![] bcast_S_S256 (constant S_ .f32 0x40000000#32)))
      (broadcastInDim S256 ![] bcast_S_S256 (constant S_ .f32 0x3F800000#32))) shapeCasts_S256_S1x256

end Terms

variable {F : FTy → Type} [FloatOps F] [Named F]
variable (m : (ℓ : Loc nD τ sig) → Buf (Elt F) ℓ) (ρ : Dev nD → PrngReg) (c : Dev nD)

/-- The positions' input. -/
theorem v1 : V13 m ρ c main_v1 = hT2 (m ((c.tc : Thread nD τ).loc main_arg0)) := by
  simp only [V13, W13, W12, W11, W10, W9, W8, W7, W6, W5, W4, W3, W2, W1, StableHlo.after_cons, StableHlo.after_nil]
  after_results_simp
  rfl

/-- The scales' input. -/
theorem v3 : V13 m ρ c main_v3 = hT2 (m ((c.tc : Thread nD τ).loc main_arg1)) := by
  simp only [V13, W13, W12, W11, W10, W9, W8, W7, W6, W5, W4, W3, W2, W1, StableHlo.after_cons, StableHlo.after_nil]
  after_results_simp
  rfl

/-- The rotations' input. -/
theorem v5 : V13 m ρ c main_v5 = hT1 (m ((c.tc : Thread nD τ).loc main_arg2)) := by
  simp only [V13, W13, W12, W11, W10, W9, W8, W7, W6, W5, W4, W3, W2, W1, StableHlo.after_cons, StableHlo.after_nil]
  after_results_simp
  rfl

/-- The colours' input. -/
theorem v7 : V13 m ρ c main_v7 = hT3 (m ((c.tc : Thread nD τ).loc main_arg3)) := by
  simp only [V13, W13, W12, W11, W10, W9, W8, W7, W6, W5, W4, W3, W2, W1, StableHlo.after_cons, StableHlo.after_nil]
  after_results_simp
  rfl

/-- The second features' input. -/
theorem v9 : V13 m ρ c main_v9 = hT2 (m ((c.tc : Thread nD τ).loc main_arg4)) := by
  simp only [V13, W13, W12, W11, W10, W9, W8, W7, W6, W5, W4, W3, W2, W1, StableHlo.after_cons, StableHlo.after_nil]
  after_results_simp
  rfl

/-- The opacities' input. -/
theorem v11 : V13 m ρ c main_v11 = hT1 (m ((c.tc : Thread nD τ).loc main_arg5)) := by
  simp only [V13, W13, W12, W11, W10, W9, W8, W7, W6, W5, W4, W3, W2, W1, StableHlo.after_cons, StableHlo.after_nil]
  after_results_simp
  rfl

/-- The columns' input. -/
theorem v21 : V13 m ρ c main_v21 = hG := by
  simp only [V13, W13, W12, W11, W10, W9, W8, W7, W6, W5, W4, W3, W2, W1, StableHlo.after_cons, StableHlo.after_nil]
  after_results_simp
  rfl

section Read

variable (n : Fin 10240)

/-- The padding value is zero. -/
theorem pad_zero : (FloatOps.sitofp .f32 (0#32) : Ideal .f32) = (0 : EReal) := by
  show (((0#32 : BitVec 32).toInt : ℝ) : EReal) = 0
  norm_num

/-- A padded and transposed argument of 1 column at an index: the argument's entry, zero past its rows. -/
theorem hT1_apply (x : FVec Ideal S10000x1 .f32) :
    (hT1 x (ix2 0 n) : EReal) = if h : n.val < 10000 then x (ix2 ⟨n.val, h⟩ 0) else 0 := by
  pointwise [hT1, hZero]
  rw [pad_zero]

/-- A padded and transposed argument of 2 columns at an index: the argument's entry, zero past its rows. -/
theorem hT2_apply (x : FVec Ideal S10000x2 .f32) (i : Fin 2) :
    (hT2 x (ix2 i n) : EReal) = if h : n.val < 10000 then x (ix2 ⟨n.val, h⟩ i) else 0 := by
  pointwise [hT2, hZero]
  rw [pad_zero]

/-- A padded and transposed argument of 3 columns at an index: the argument's entry, zero past its rows. -/
theorem hT3_apply (x : FVec Ideal S10000x3 .f32) (i : Fin 3) :
    (hT3 x (ix2 i n) : EReal) = if h : n.val < 10000 then x (ix2 ⟨n.val, h⟩ i) else 0 := by
  pointwise [hT3, hZero]
  rw [pad_zero]

/-- A column's coordinate. -/
theorem hG_apply (j : Fin 256) : (hG (F := Ideal) (ix2 0 j) : EReal) = Cert.Splat.coord j.val := by
  pointwise [hG]
  rfl

end Read

end Cert.KernelIdeal.HostIn

end
-- ==== Proof.HostOut.lean ====
/-
  The kernel program's result from the raster call's array.
-/
module

public import proofs.«01_k».proof.Proof.Gen.KernelIdeal.Frame.State
public import Idealize.ShloMosaic.Lib.Claim
public import Idealize.ShloMosaic.Lib.Pointwise

@[expose] public section

set_option maxRecDepth 16384

noncomputable section

namespace Cert.KernelIdeal.HostOut

open Idealize.ShloMosaic Idealize.ShloMosaic.TcCoe Idealize.ShloMosaic.Tactic
open Cert.KernelIdeal Cert.KernelIdeal.Gen

section Terms

variable {F : FTy → Type} [FloatOps F] [Named F]

/-- The raster call's two column halves put side by side, as an image. -/
def hImg (x : FVec F S3x65536 .f32) : FVec F S1x3x256x256 .f32 :=
  shapeCast S1x3x256x256 (transpose S3x256x2x128 [0, 2, 1, 3] (shapeCast S3x2x256x128 x shapeCasts_S3x65536_S3x2x256x128)
    transposes_S3x2x256x128_S3x256x2x128_0_2_1_3) shapeCasts_S3x256x2x128_S1x3x256x256

variable (m : (ℓ : Loc nD τ sig) → Buf (Elt F) ℓ) (ρ : Dev nD → PrngReg) (c : Dev nD)

/-- The result is the rearranged raster array. -/
theorem v26 : W16 m ρ c (Proc.devRef .tc main_v26) = hImg (W15 m ρ c (Proc.devRef .tc main_v23)) := by
  simp only [W16, StableHlo.after_cons, StableHlo.after_nil]
  after_results_simp
  rfl

end Terms

/-- A pixel of the image is the raster array's at its half, row and lane. -/
theorem hImg_apply (x : FVec Ideal S3x65536 .f32) (ch : Fin 3) (y v : Fin 256) (p : Fin 65536)
    (hp : p.val = v.val / 128 * 32768 + y.val * 128 + v.val % 128) : hImg x (ix4 0 ch y v) = x (ix2 ch p) := by
  obtain ⟨p, hlt⟩ := p
  obtain rfl : p = v.val / 128 * 32768 + y.val * 128 + v.val % 128 := hp
  pointwise [hImg]

end Cert.KernelIdeal.HostOut

end
-- ==== Proof.Image.lean ====
/-
  The kernel program's image over the extended reals, pixel by pixel, from its arguments.
-/
module

public import proofs.«01_k».proof.Proof.RasterArr
public import proofs.«01_k».proof.Proof.PrepFinal
public import proofs.«01_k».proof.Proof.HostIn
public import proofs.«01_k».proof.Proof.HostOut

@[expose] public section

set_option maxRecDepth 16384

noncomputable section

namespace Cert.KernelIdeal.Image

open Idealize.ShloMosaic Idealize.ShloMosaic.TcCoe Idealize.ShloMosaic.Tactic
open Cert.KernelIdeal Cert.KernelIdeal.Gen Cert.KernelIdeal.Raster Cert.KernelIdeal.Prep Cert.KernelIdeal.HostIn
open Cert.KernelIdeal.HostOut Cert.Splat

section Point

variable (x0 x1 : FVec Ideal S10000x2 .f32) (x2 : FVec Ideal S10000x1 .f32) (x3 : FVec Ideal S10000x3 .f32)
  (x4 : FVec Ideal S10000x2 .f32) (x5 : FVec Ideal S10000x1 .f32)

/-- A padded point's weight at a column and a row, by the row recurrence. -/
def weight (y v : Fin 256) (n : Fin 10240) : EReal :=
  wS (kW (kA (kCos (hT1 x2) n) (kSin (hT1 x2) n) (kVar (hT2 x1) 0 n) (kVar (hT2 x1) 1 n))
      (kB (kCos (hT1 x2) n) (kSin (hT1 x2) n) (kVar (hT2 x1) 0 n) (kVar (hT2 x1) 1 n))
      (kC (kCos (hT1 x2) n) (kSin (hT1 x2) n) (kVar (hT2 x1) 0 n) (kVar (hT2 x1) 1 n))
      (coord v.val - Ideal.tanh (hT2 x0 (ix2 0 n))) (Ideal.tanh (hT2 x0 (ix2 1 n))))
    (kM (kB (kCos (hT1 x2) n) (kSin (hT1 x2) n) (kVar (hT2 x1) 0 n) (kVar (hT2 x1) 1 n))
      (kC (kCos (hT1 x2) n) (kSin (hT1 x2) n) (kVar (hT2 x1) 0 n) (kVar (hT2 x1) 1 n))
      (coord v.val - Ideal.tanh (hT2 x0 (ix2 0 n))) (Ideal.tanh (hT2 x0 (ix2 1 n))))
    (kR (kC (kCos (hT1 x2) n) (kSin (hT1 x2) n) (kVar (hT2 x1) 0 n) (kVar (hT2 x1) 1 n))
      (coord v.val - Ideal.tanh (hT2 x0 (ix2 0 n)))) y.val

/-- A padded point's amplitude in a channel. -/
def amp (ch : Fin 3) (n : Fin 10240) : EReal :=
  (hT3 x3 (ix2 ch n) : EReal) * hT1 x5 (ix2 0 n) * (Ideal.exp (hT2 x4 (ix2 0 n)) * Ideal.exp (hT2 x4 (ix2 1 n)))

end Point

variable (m : (ℓ : Loc nD τ sig) → Buf (Elt Ideal) ℓ) (ρ : Dev nD → PrngReg) (c : Dev nD)

/-- A pixel is the clipped sum over every padded point of its amplitude times its weight. -/
theorem at_pixel (ch : Fin 3) (y v : Fin 256)
    (x0 x1 : FVec Ideal S10000x2 .f32) (x2 : FVec Ideal S10000x1 .f32) (x3 : FVec Ideal S10000x3 .f32)
    (x4 : FVec Ideal S10000x2 .f32) (x5 : FVec Ideal S10000x1 .f32)
    (h0 : m ((c.tc : Thread nD τ).loc main_arg0) = x0) (h1 : m ((c.tc : Thread nD τ).loc main_arg1) = x1)
    (h2 : m ((c.tc : Thread nD τ).loc main_arg2) = x2) (h3 : m ((c.tc : Thread nD τ).loc main_arg3) = x3)
    (h4 : m ((c.tc : Thread nD τ).loc main_arg4) = x4) (h5 : m ((c.tc : Thread nD τ).loc main_arg5) = x5) :
    (W16 m ρ c (Proc.devRef .tc main_v26) : FVec Ideal S1x3x256x256 .f32) (ix4 0 ch y v)
      = min (1 : EReal) (max 0 (∑ n : Fin 10240, amp x3 x4 x5 ch n * weight x0 x1 x2 y v n)) := by
  have hp : v.val / 128 * 32768 + y.val * 128 + v.val % 128 < 65536 := by have := v.isLt; have := y.isLt; omega
  have hcol : colOf ⟨_, hp⟩ = v := Fin.ext (by
    show 128 * ((v.val / 128 * 32768 + y.val * 128 + v.val % 128) / 32768) + (v.val / 128 * 32768 + y.val * 128 + v.val % 128) % 128 = v.val
    have := v.isLt; have := y.isLt; omega)
  have hrow : (v.val / 128 * 32768 + y.val * 128 + v.val % 128) % 32768 / 128 = y.val := by
    have := v.isLt; have := y.isLt; omega
  have e0 : V13 m ρ c main_v1 = hT2 x0 := (v1 m ρ c).trans (congrArg _ h0)
  have e1 : V13 m ρ c main_v3 = hT2 x1 := (v3 m ρ c).trans (congrArg _ h1)
  have e2 : V13 m ρ c main_v5 = hT1 x2 := (v5 m ρ c).trans (congrArg _ h2)
  have e3 : V13 m ρ c main_v7 = hT3 x3 := (v7 m ρ c).trans (congrArg _ h3)
  have e4 : V13 m ρ c main_v9 = hT2 x4 := (v9 m ρ c).trans (congrArg _ h4)
  have e5 : V13 m ρ c main_v11 = hT1 x5 := (v11 m ρ c).trans (congrArg _ h5)
  have e6 : V13 m ρ c main_v21 = hG (F := Ideal) := v21 m ρ c
  have r7 : V14 m ρ c main_v22_0 = (dat0 (V13 m ρ) c).arrAt 7 cfg0.N := W14_arr m ρ c 7
  have r8 : V14 m ρ c main_v22_1 = (dat0 (V13 m ρ) c).arrAt 8 cfg0.N := W14_arr m ρ c 8
  have r9 : V14 m ρ c main_v22_2 = (dat0 (V13 m ρ) c).arrAt 9 cfg0.N := W14_arr m ρ c 9
  have r10 : V14 m ρ c main_v22_3 = (dat0 (V13 m ρ) c).arrAt 10 cfg0.N := W14_arr m ρ c 10
  have hr : W15 m ρ c (Proc.devRef .tc main_v23)
      = rasterOut (V14 m ρ c main_v22_0) (V14 m ρ c main_v22_1) (V14 m ρ c main_v22_2) (V14 m ρ c main_v22_3) :=
    (W15_arr m ρ c 4).trans (Raster.final (V14 m ρ) c)
  rw [v26, hImg_apply _ ch y v ⟨_, hp⟩ rfl, hr, r7, r8, r9, r10]
  refine congrArg (fun z : EReal => min (1 : EReal) (max 0 z)) (Finset.sum_congr rfl fun n _ => ?_)
  unfold term
  refine congrArg₂ (fun a b : EReal => a * b) (final10 (V13 m ρ) c n ch _ _ _ e3 e4 e5) ?_
  show wS (((dat0 (V13 m ρ) c).arrAt 7 cfg0.N : FVec Ideal S10240x256 .f32) (ix2 n (colOf ⟨_, hp⟩)))
    (((dat0 (V13 m ρ) c).arrAt 8 cfg0.N : FVec Ideal S10240x256 .f32) (ix2 n (colOf ⟨_, hp⟩)))
    (((dat0 (V13 m ρ) c).arrAt 9 cfg0.N : FVec Ideal S10240x256 .f32) (ix2 n (colOf ⟨_, hp⟩))) ((v.val / 128 * 32768 + y.val * 128 + v.val % 128) % 32768 / 128) = _
  rw [hrow, hcol, final7 (V13 m ρ) c n v _ _ _ _ e0 e1 e2 e6, final8 (V13 m ρ) c n v _ _ _ _ e0 e1 e2 e6,
    final9 (V13 m ρ) c n v _ _ _ _ e0 e1 e2 e6, hG_apply]
  rfl

end Cert.KernelIdeal.Image

end
-- ==== Proof.RefAt.lean ====
/-
  The reference's image over the extended reals, pixel by pixel.
-/
module

public import proofs.«01_k».proof.Proof.Gen.ReferenceIdeal.Run
public import proofs.«01_k».proof.Proof.Scalar
public import Idealize.ShloMosaic.Lib.Pointwise

@[expose] public section

set_option maxRecDepth 16384

noncomputable section

namespace Cert.ReferenceIdeal.RefAt

open Idealize.ShloMosaic Idealize.ShloMosaic.TcCoe Idealize.ShloMosaic.Tactic
open Cert.ReferenceIdeal Cert.ReferenceIdeal.Value Cert.Splat

/-- A point's weight at a column and a row, from the positions, the scales and the rotations. -/
def weight (x0 x1 : FVec Ideal S10000x2 .f32) (x2 : FVec Ideal S10000x1 .f32) (y v : Fin 256) (n : Fin 10000) : EReal :=
  rW (rA (Ideal.cos (rAngle (x2 (ix2 n 0)))) (Ideal.sin (rAngle (x2 (ix2 n 0)))) (var (x1 (ix2 n 0))) (var (x1 (ix2 n 1))))
    (rB (Ideal.cos (rAngle (x2 (ix2 n 0)))) (Ideal.sin (rAngle (x2 (ix2 n 0)))) (var (x1 (ix2 n 0))) (var (x1 (ix2 n 1))))
    (rC (Ideal.cos (rAngle (x2 (ix2 n 0)))) (Ideal.sin (rAngle (x2 (ix2 n 0)))) (var (x1 (ix2 n 0))) (var (x1 (ix2 n 1))))
    (coord v.val - Ideal.tanh (x0 (ix2 n 0))) (coord y.val - Ideal.tanh (x0 (ix2 n 1)))

/-- A point's amplitude in a channel, from the colours, the second features and the opacities. -/
def amp (x3 : FVec Ideal S10000x3 .f32) (x4 : FVec Ideal S10000x2 .f32) (x5 : FVec Ideal S10000x1 .f32) (ch : Fin 3) (n : Fin 10000) : EReal :=
  (x3 (ix2 n ch) : EReal) * x5 (ix2 n 0) * (Ideal.exp (x4 (ix2 n 0)) * Ideal.exp (x4 (ix2 n 1)))

/-- A pixel is the clipped sum over every point of its weight times its amplitude. -/
theorem at_pixel (m : (ℓ : Loc nD τ sig) → Buf (Elt Ideal) ℓ) (c : Dev nD) (ch : Fin 3) (y v : Fin 256)
    (x0 x1 : FVec Ideal S10000x2 .f32) (x2 : FVec Ideal S10000x1 .f32) (x3 : FVec Ideal S10000x3 .f32)
    (x4 : FVec Ideal S10000x2 .f32) (x5 : FVec Ideal S10000x1 .f32)
    (h0 : m ((c.tc : Thread nD τ).loc main_arg0) = x0) (h1 : m ((c.tc : Thread nD τ).loc main_arg1) = x1)
    (h2 : m ((c.tc : Thread nD τ).loc main_arg2) = x2) (h3 : m ((c.tc : Thread nD τ).loc main_arg3) = x3)
    (h4 : m ((c.tc : Thread nD τ).loc main_arg4) = x4) (h5 : m ((c.tc : Thread nD τ).loc main_arg5) = x5) :
    (res_main_v113 m c : FVec Ideal S1x3x256x256 .f32) (ix4 0 ch y v)
      = min (1 : EReal) (max 0 (∑ n : Fin 10000, weight x0 x1 x2 y v n * amp x3 x4 x5 ch n)) := by
  unfold res_main_v113
  rw [h0, h1, h2, h3, h4, h5]
  simp only [id_eq]
  pointwise []
  refine congrArg (fun z : EReal => min (1 : EReal) (max 0 z)) (Finset.sum_congr rfl fun n _ => congrArg₂ (fun a b : EReal => a * b) ?_ ?_)
  · unfold weight rW rA rB rC det covA covB covC rAngle coord var Ideal.logistic
    rfl
  · rfl

end Cert.ReferenceIdeal.RefAt

end
-- ==== Proof.Consts.lean ====
/-
  The real numbers that the two programs' constants denote, and the finiteness of the bounded functions.
-/
module

public import proofs.«01_k».proof.Proof.Scalar
public import Idealize.ShloMosaic.PureOps.IdealRules
public import Mathlib.Tactic.Ring
public import Mathlib.Tactic.Linarith
public import Mathlib.Tactic.NormNum
public import Mathlib.Tactic.Positivity

@[expose] public section

noncomputable section

namespace Cert.Splat

open Idealize.ShloMosaic

/-- One half. -/
theorem c_half : Ideal.ofBits .f32 1056964608#32 = ((1 / 2 : ℝ) : EReal) := by
  simp [Ideal.ofBits, Ideal.ieee, -EReal.coe_mul]; norm_num
/-- Minus one half. -/
theorem c_neg_half : Ideal.ofBits .f32 3204448256#32 = ((-1 / 2 : ℝ) : EReal) := by
  simp [Ideal.ofBits, Ideal.ieee, -EReal.coe_mul]; norm_num
/-- Two. -/
theorem c_two : Ideal.ofBits .f32 1073741824#32 = ((2 : ℝ) : EReal) := by
  simp [Ideal.ofBits, Ideal.ieee, -EReal.coe_mul]; norm_num
/-- Two hundred and fifty-six. -/
theorem c_256 : Ideal.ofBits .f32 1132462080#32 = ((256 : ℝ) : EReal) := by
  simp [Ideal.ofBits, Ideal.ieee, -EReal.coe_mul]; norm_num
/-- The first row's coordinate. -/
theorem c_gy0 : Ideal.ofBits .f32 3212771328#32 = ((-255 / 256 : ℝ) : EReal) := by
  simp [Ideal.ofBits, Ideal.ieee, -EReal.coe_mul]; norm_num
/-- The rows' distance. -/
theorem c_k : Ideal.ofBits .f32 1006632960#32 = ((1 / 128 : ℝ) : EReal) := by
  simp [Ideal.ofBits, Ideal.ieee, -EReal.coe_mul]; norm_num
/-- Its square. -/
theorem c_kk : Ideal.ofBits .f32 947912704#32 = ((1 / 16384 : ℝ) : EReal) := by
  simp [Ideal.ofBits, Ideal.ieee, -EReal.coe_mul]; norm_num
/-- Twice the rows' distance times the first row's coordinate. -/
theorem c_2kg : Ideal.ofBits .f32 3162439680#32 = ((-255 / 16384 : ℝ) : EReal) := by
  simp [Ideal.ofBits, Ideal.ieee, -EReal.coe_mul]; norm_num
/-- Twice the square of the rows' distance. -/
theorem c_2kk : Ideal.ofBits .f32 956301312#32 = ((1 / 8192 : ℝ) : EReal) := by
  simp [Ideal.ofBits, Ideal.ieee, -EReal.coe_mul]; norm_num
/-- The rounded 1e-8 is a positive real. -/
theorem c_e8 : ∃ e : ℝ, 0 < e ∧ Ideal.ofBits .f32 841731191#32 = (e : EReal) := by
  refine ⟨11258999 * 2 ^ (-50 : ℤ), by positivity, ?_⟩
  simp [Ideal.ofBits, Ideal.ieee, -EReal.coe_mul]
/-- The rounded 1e-12 is a positive real. -/
theorem c_e12 : ∃ e : ℝ, 0 < e ∧ Ideal.ofBits .f32 730643660#32 = (e : EReal) := by
  refine ⟨9223372 * 2 ^ (-63 : ℤ), by positivity, ?_⟩
  simp [Ideal.ofBits, Ideal.ieee, -EReal.coe_mul]
/-- The rounded π. -/
def piR : ℝ := 13176795 * 2 ^ (-22 : ℤ)
theorem c_pi : Ideal.ofBits .f32 1078530011#32 = (piR : EReal) := by
  unfold piR
  simp [Ideal.ofBits, Ideal.ieee, -EReal.coe_mul]
/-- The rounded 2π is twice the rounded π. -/
theorem c_2pi : Ideal.ofBits .f32 1086918619#32 = ((2 * piR : ℝ) : EReal) := by
  unfold piR
  simp [Ideal.ofBits, Ideal.ieee, -EReal.coe_mul]; norm_num

/-- The named constant log₂ e. -/
theorem c_log2e : Named.named (F := Ideal) Cert.KernelIdeal.κ "log2e" (φ := .f32) 1069066811#32 = (((Real.log 2)⁻¹ : ℝ) : EReal) :=
  IdealRules.named_const.ideal_named_scalar _ _ _ _ rfl
/-- The named constant minus half of log₂ e. -/
theorem c_neg_half_log2e : Named.named (F := Ideal) Cert.KernelIdeal.κ "neg_half_log2e" (φ := .f32) 3208161851#32
    = (((-1 / 2) * (Real.log 2)⁻¹ : ℝ) : EReal) :=
  IdealRules.named_const.ideal_named_scalar _ _ _ _ rfl

/-- A hyperbolic tangent is finite. -/
theorem tanh_real (x : EReal) : ∃ r : ℝ, Ideal.tanh x = (r : EReal) := by
  induction x with
  | bot => exact ⟨-1, by simp⟩
  | top => exact ⟨1, by simp⟩
  | coe r => exact ⟨_, Ideal.tanh_coe r⟩

/-- A sigmoid is finite. -/
theorem logistic_real (x : EReal) : ∃ r : ℝ, Ideal.logistic x = (r : EReal) := by
  induction x with
  | bot => exact ⟨0, by simp⟩
  | top => exact ⟨1, by simp⟩
  | coe r => exact ⟨_, Ideal.logistic_coe r⟩

/-- The two programs' angles are one finite number. -/
theorem angle_real (x : EReal) : ∃ t : ℝ, angle x = (t : EReal) ∧ rAngle x = (t : EReal) := by
  obtain ⟨r, hr⟩ := logistic_real x
  refine ⟨r * (2 * piR), ?_, ?_⟩
  · rw [angle, hr, c_2pi, ← EReal.coe_mul]
  · rw [rAngle, hr, c_two, c_pi, ← EReal.coe_mul, ← EReal.coe_mul, mul_assoc]

/-- A coordinate is a real number. -/
theorem coord_real (j : ℕ) (hj : j < 256) : coord j = (((j + 1 / 2) / 256 * 2 - 1 : ℝ) : EReal) := by
  have hi : (FloatOps.sitofp .f32 (BitVec.ofNat 32 j) : Ideal .f32) = ((j : ℝ) : EReal) := by
    show (((BitVec.ofNat 32 j).toInt : ℝ) : EReal) = _
    have : (BitVec.ofNat 32 j).toInt = (j : ℤ) := by
      rw [BitVec.toInt_eq_toNat_of_lt] <;> simp <;> omega
    rw [this]; norm_num
  rw [coord, hi, c_half, c_256, c_two, Ideal.div_coe (by norm_num), ← EReal.coe_add, ← EReal.coe_mul, ← EReal.coe_mul,
    ← EReal.coe_one, ← EReal.coe_sub]
  congr 1
  ring

/-- A variance is a positive real or infinite. -/
theorem var_cases (x : EReal) : var x = ⊤ ∨ ∃ p : ℝ, 0 < p ∧ var x = (p : EReal) := by
  obtain ⟨e, he, h8⟩ := c_e8
  rw [var, c_half, h8]
  induction x with
  | bot => left; simp
  | top => left; simp
  | coe r =>
    right
    refine ⟨max (r + 1 / 2) (-(r + 1 / 2)) * max (r + 1 / 2) (-(r + 1 / 2)) + e,
      add_pos_of_nonneg_of_pos (mul_self_nonneg _) he, ?_⟩
    rw [← EReal.coe_add, ← EReal.coe_neg, ← EReal.coe_strictMono.monotone.map_max, ← EReal.coe_mul, ← EReal.coe_add]

end Cert.Splat

end
-- ==== Proof.Coef.lean ====
/-
  The two programs' quadratic coefficients: finite, and the kernel's are the reference's times log₂ e and the
  factor of the exponent.
-/
module

public import proofs.«01_k».proof.Proof.Consts

@[expose] public section

noncomputable section

namespace Cert.Splat

open Idealize.ShloMosaic

/-- The base-two logarithm of e. -/
def L : ℝ := (Real.log 2)⁻¹

/-- The coefficients are real, and the kernel's are scaled from the reference's. -/
def Scaled (c s p q : EReal) : Prop :=
  ∃ A B C : ℝ, rA c s p q = (A : EReal) ∧ rB c s p q = (B : EReal) ∧ rC c s p q = (C : EReal)
    ∧ kA c s p q = ((-1 / 2 * L * A : ℝ) : EReal) ∧ kB c s p q = ((-(L * B) : ℝ) : EReal) ∧ kC c s p q = ((-1 / 2 * L * C : ℝ) : EReal)

/-- With real variances the determinant is positive, and every quotient is a real one. -/
theorem scaled_real (c s p q : ℝ) (hp : 0 < p) (hq : 0 < q) : Scaled c s p q := by
  obtain ⟨e, he, h12⟩ := c_e12
  have hA : covA c s p q = ((c * c * p + s * s * q : ℝ) : EReal) := by unfold covA; push_cast; rfl
  have hB : covB c s p q = ((c * s * (p - q) : ℝ) : EReal) := by unfold covB; push_cast; rfl
  have hC : covC c s p q = ((s * s * p + c * c * q : ℝ) : EReal) := by unfold covC; push_cast; rfl
  have hD : det c s p q = (((c * c * p + s * s * q) * (s * s * p + c * c * q) - c * s * (p - q) * (c * s * (p - q)) + e : ℝ) : EReal) := by
    rw [det, hA, hB, hC, h12]; push_cast; rfl
  have hpos : (c * c * p + s * s * q) * (s * s * p + c * c * q) - c * s * (p - q) * (c * s * (p - q)) + e ≠ 0 := by
    have h1 : (c * c * p + s * s * q) * (s * s * p + c * c * q) - c * s * (p - q) * (c * s * (p - q))
        = p * q * ((c * c + s * s) * (c * c + s * s)) := by ring
    have h2 : 0 ≤ p * q * ((c * c + s * s) * (c * c + s * s)) := mul_nonneg (mul_nonneg hp.le hq.le) (mul_self_nonneg _)
    rw [h1]
    exact (add_pos_of_nonneg_of_pos h2 he).ne'
  unfold Scaled rA rB rC kA kB kC
  rw [hA, hB, hC, hD, c_log2e, c_neg_half_log2e, ← EReal.coe_neg, ← EReal.coe_mul, ← EReal.coe_mul, ← EReal.coe_mul,
    Ideal.div_coe hpos, Ideal.div_coe hpos, Ideal.div_coe hpos, Ideal.div_coe hpos, Ideal.div_coe hpos, Ideal.div_coe hpos,
    ← EReal.coe_mul, ← EReal.coe_mul, ← EReal.coe_mul, ← EReal.coe_mul, ← EReal.coe_mul, ← EReal.coe_mul]
  refine ⟨_, _, _, rfl, rfl, rfl, congrArg _ ?_, congrArg _ ?_, congrArg _ ?_⟩ <;> unfold L <;> ring

/-- With an infinite determinant every quotient is zero. -/
theorem scaled_inf (c s p q : EReal) (h : det c s p q = ⊤ ∨ det c s p q = ⊥) : Scaled c s p q := by
  have hz : ∀ x, Ideal.div x (det c s p q) = 0 := by
    intro x
    rcases h with h | h <;> rw [h] <;> simp [Ideal.div]
  unfold Scaled rA rB rC kA kB kC
  refine ⟨0, 0, 0, ?_, ?_, ?_, ?_, ?_, ?_⟩ <;> rw [hz] <;> simp

/-- When the diagonal entries' product is infinite the determinant is. -/
theorem det_inf (c s p q : EReal) (h : covA c s p q * covC c s p q = ⊤) : det c s p q = ⊤ ∨ det c s p q = ⊥ := by
  obtain ⟨e, he, h12⟩ := c_e12
  rw [det, h, h12]
  induction covB c s p q * covB c s p q with
  | bot => left; simp
  | top => right; simp
  | coe r => left; simp

/-- With the first variance infinite and the other positive the diagonal entries' product is infinite. -/
theorem prod_inf (c s : ℝ) (hcs : c ^ 2 + s ^ 2 = 1) (q : EReal) (hq : 0 < q) :
    covA c s ⊤ q * covC c s ⊤ q = ⊤ := by
  have hmul : ∀ x : ℝ, x ≠ 0 → (x : EReal) * x * ⊤ = ⊤ := by
    intro x hx
    rw [← EReal.coe_mul]
    exact EReal.coe_mul_top_of_pos (mul_self_pos.mpr hx)
  have hpos : ∀ x : ℝ, x ≠ 0 → 0 < (x : EReal) * x * q := by
    intro x hx
    rw [← EReal.coe_mul]
    exact EReal.mul_pos (EReal.coe_pos.mpr (mul_self_pos.mpr hx)) hq
  have hnn : ∀ x : ℝ, ∀ y : EReal, 0 ≤ y → 0 ≤ (x : EReal) * x * y := by
    intro x y hy
    rw [← EReal.coe_mul]
    exact mul_nonneg (EReal.coe_nonneg.mpr (mul_self_nonneg x)) hy
  have htop : ∀ y : EReal, 0 ≤ y → (⊤ : EReal) + y = ⊤ := fun y hy =>
    EReal.top_add_of_ne_bot (ne_of_gt (lt_of_lt_of_le EReal.bot_lt_zero hy))
  unfold covA covC
  by_cases hc : c = 0
  · have hs : s ≠ 0 := by rintro rfl; rw [hc] at hcs; norm_num at hcs
    rw [hmul s hs, htop _ (hnn c q hq.le), hc]
    have : ((0 : ℝ) : EReal) * ((0 : ℝ) : EReal) * ⊤ = 0 := by simp
    rw [this, zero_add]
    exact EReal.mul_top_of_pos (hpos s hs)
  · rw [hmul c hc, htop _ (hnn s q hq.le)]
    exact EReal.top_mul_of_pos (lt_of_lt_of_le (hpos c hc) (le_add_of_nonneg_left (hnn s ⊤ le_top)))

/-- The same with the variances exchanged. -/
theorem prod_inf' (c s : ℝ) (hcs : c ^ 2 + s ^ 2 = 1) (p : EReal) (hp : 0 < p) :
    covA c s p ⊤ * covC c s p ⊤ = ⊤ := by
  have h := prod_inf c s hcs p hp
  unfold covA covC at h ⊢
  rw [add_comm ((c : EReal) * c * p), add_comm ((s : EReal) * s * p), mul_comm]
  exact h

/-- The coefficients of any point: whatever the scales, and for any angle. -/
theorem scaled (t : ℝ) (x y : EReal) : Scaled (Ideal.cos t) (Ideal.sin t) (var x) (var y) := by
  rw [Ideal.cos_coe, Ideal.sin_coe]
  have hcs : Real.cos t ^ 2 + Real.sin t ^ 2 = 1 := Real.cos_sq_add_sin_sq t
  have hpos : ∀ z, 0 < var z := by
    intro z
    rcases var_cases z with h | ⟨p, hp, h⟩ <;> rw [h]
    · exact EReal.zero_lt_top
    · exact EReal.coe_pos.mpr hp
  rcases var_cases x with hx | ⟨p, hp, hx⟩
  · exact scaled_inf _ _ _ _ (det_inf _ _ _ _ (by rw [hx]; exact prod_inf _ _ hcs _ (hpos y)))
  · rcases var_cases y with hy | ⟨q, hq, hy⟩
    · exact scaled_inf _ _ _ _ (det_inf _ _ _ _ (by rw [hy]; exact prod_inf' _ _ hcs _ (hpos x)))
    · rw [hx, hy]
      exact scaled_real _ _ p q hp hq

end Cert.Splat

end
-- ==== Proof.Weight.lean ====
/-
  The kernel's row recurrence gives the reference's weight at every row.
-/
module

public import proofs.«01_k».proof.Proof.Coef
public import proofs.«01_k».proof.Proof.RasterStep

@[expose] public section

noncomputable section

namespace Cert.Splat

open Idealize.ShloMosaic Cert.KernelIdeal.Raster

/-- Two to a real power, as an extended real. -/
def E2 (x : ℝ) : EReal := ((Real.rpow 2 x : ℝ) : EReal)

/-- Powers of two multiply by adding the exponents. -/
theorem E2_mul (x y : ℝ) : E2 x * E2 y = E2 (x + y) := by
  unfold E2
  rw [← EReal.coe_mul]
  exact congrArg _ (Real.rpow_add (by norm_num) x y).symm

/-- The multiplier at a row: the exponent grows by a constant from row to row. -/
theorem mS_pow (a d : ℝ) : ∀ y : ℕ, mS (E2 a) (E2 d) y = E2 (a + d * y)
  | 0 => by show E2 a = _; norm_num
  | y + 1 => by
    show mS (E2 a) (E2 d) y * E2 d = _
    rw [mS_pow a d y, E2_mul]
    congr 1
    push_cast
    ring

/-- The weight at a row: the exponent is a quadratic of the row's coordinate, by its first value and its first and
    second differences. -/
theorem wS_pow (u v w : ℝ) : ∀ y : ℕ,
    wS (E2 (u + -255 / 256 * (v + -255 / 256 * w))) (E2 (1 / 128 * v + 1 / 16384 * w + -255 / 16384 * w)) (E2 (1 / 8192 * w)) y
      = E2 (u + ((y + 1 / 2) / 256 * 2 - 1) * (v + ((y + 1 / 2) / 256 * 2 - 1) * w))
  | 0 => by
    show E2 _ = E2 _
    congr 1
    push_cast
    ring
  | y + 1 => by
    show wS _ _ _ y * mS _ _ y = _
    rw [wS_pow u v w y, mS_pow, E2_mul]
    congr 1
    push_cast
    ring

/-- A power of two whose exponent carries log₂ e is an exponential. -/
theorem E2_exp (x : ℝ) : E2 (L * x) = ((Real.exp x : ℝ) : EReal) := by
  unfold E2 L
  refine congrArg _ ?_
  show (2 : ℝ) ^ ((Real.log 2)⁻¹ * x) = _
  have h2 : Real.log 2 ≠ 0 := (Real.log_pos (by norm_num)).ne'
  rw [Real.rpow_def_of_pos (by norm_num), ← mul_assoc, mul_inv_cancel₀ h2, one_mul]

/-- The reference's weight on real numbers. -/
theorem rW_real (A B C d e : ℝ) : rW A B C d e = ((Real.exp (-1 / 2 * (A * d * d + 2 * B * d * e + C * e * e)) : ℝ) : EReal) := by
  rw [rW, c_neg_half, c_two, ← Ideal.exp_coe]
  congr 1

/-- At row `y` the kernel's recurrence stands at the reference's weight. -/
theorem weight_row (c s p q : EReal) (h : Scaled c s p q) (d z : ℝ) (y : ℕ) :
    wS (kW (kA c s p q) (kB c s p q) (kC c s p q) d z) (kM (kB c s p q) (kC c s p q) d z) (kR (kC c s p q) d) y
      = rW (rA c s p q) (rB c s p q) (rC c s p q) d ((((y + 1 / 2) / 256 * 2 - 1 : ℝ) : EReal) - z) := by
  obtain ⟨A, B, C, hA, hB, hC, hkA, hkB, hkC⟩ := h
  rw [hA, hB, hC, hkA, hkB, hkC, ← EReal.coe_sub, rW_real]
  have hu0 : ∀ a b k : ℝ, u0 a b k d z = (((a * d - b * z) * d + k * (z * z) : ℝ) : EReal) := by
    intro a b k; unfold u0; push_cast; rfl
  have hu1 : ∀ b k : ℝ, u1 b k d z = ((b * d - 2 * k * z : ℝ) : EReal) := by
    intro b k; unfold u1; rw [c_two]; push_cast; rfl
  have hu2 : ∀ k : ℝ, u2 k d = ((k : ℝ) : EReal) := by
    intro k; unfold u2; rw [zero_mul, add_zero]
  have hW : ∀ a b k : ℝ, kW a b k d z
      = E2 (((a * d - b * z) * d + k * (z * z)) + -255 / 256 * ((b * d - 2 * k * z) + -255 / 256 * k)) := by
    intro a b k
    rw [kW, hu0, hu1, hu2, c_gy0, ← EReal.coe_mul, ← EReal.coe_add, ← EReal.coe_mul, ← EReal.coe_add, Ideal.exp2_coe]
    rfl
  have hM : ∀ b k : ℝ, kM b k d z = E2 (1 / 128 * (b * d - 2 * k * z) + 1 / 16384 * k + -255 / 16384 * k) := by
    intro b k
    rw [kM, hu1, hu2, c_k, c_kk, c_2kg, ← EReal.coe_mul, ← EReal.coe_mul, ← EReal.coe_mul, ← EReal.coe_add, ← EReal.coe_add,
      Ideal.exp2_coe]
    rfl
  have hR : ∀ k : ℝ, kR k d = E2 (1 / 8192 * k) := by
    intro k
    rw [kR, hu2, c_2kk, ← EReal.coe_mul, Ideal.exp2_coe]
    rfl
  rw [hW, hM, hR, wS_pow, ← E2_exp]
  congr 1
  ring

end Cert.Splat

end
-- ==== Proof.Equation.lean ====
/-
  The two programs' images are equal.
-/
module

public import proofs.«01_k».proof.Proof.Image
public import proofs.«01_k».proof.Proof.RefAt
public import proofs.«01_k».proof.Proof.Weight

@[expose] public section

set_option maxRecDepth 16384

noncomputable section

namespace Cert.Splat

open Idealize.ShloMosaic Idealize.ShloMosaic.TcCoe Idealize.ShloMosaic.Tactic
open Cert.KernelIdeal.HostIn Cert.KernelIdeal.Prep

/-- A sum over the padded points whose padding adds nothing is the sum over the points. -/
theorem sum_padded (f : Fin 10240 → EReal) (h : ∀ n : Fin 10240, 10000 ≤ n.val → f n = 0) :
    ∑ n : Fin 10240, f n = ∑ n : Fin 10000, f ⟨n.val, by have := n.isLt; omega⟩ := by
  have h1 : ∑ n : Fin (10000 + 240), f n = ∑ i : Fin 10000, f (Fin.castAdd 240 i) + ∑ i : Fin 240, f (Fin.natAdd 10000 i) :=
    Fin.sum_univ_add (a := 10000) (b := 240) f
  have h2 : ∑ i : Fin 240, f (Fin.natAdd 10000 i) = 0 :=
    Finset.sum_eq_zero fun i _ => h _ (Nat.le_add_right 10000 i.val)
  refine h1.trans ?_
  rw [h2, add_zero]
  rfl

section Point

variable (x0 x1 : FVec Ideal Cert.KernelIdeal.S10000x2 .f32) (x2 : FVec Ideal Cert.KernelIdeal.S10000x1 .f32)
  (x3 : FVec Ideal Cert.KernelIdeal.S10000x3 .f32) (x4 : FVec Ideal Cert.KernelIdeal.S10000x2 .f32)
  (x5 : FVec Ideal Cert.KernelIdeal.S10000x1 .f32)

/-- A padded point has no amplitude. -/
theorem amp_pad (ch : Fin 3) (n : Fin 10240) (hn : 10000 ≤ n.val) : Cert.KernelIdeal.Image.amp x3 x4 x5 ch n = 0 := by
  unfold Cert.KernelIdeal.Image.amp
  rw [hT3_apply, dif_neg (Nat.not_lt.mpr hn), zero_mul, zero_mul]

/-- A point's amplitude is the reference's. -/
theorem amp_eq (ch : Fin 3) (n : Fin 10000) :
    Cert.KernelIdeal.Image.amp x3 x4 x5 ch ⟨n.val, by have := n.isLt; omega⟩ = Cert.ReferenceIdeal.RefAt.amp x3 x4 x5 ch n := by
  unfold Cert.KernelIdeal.Image.amp Cert.ReferenceIdeal.RefAt.amp
  rw [hT3_apply, hT1_apply, hT2_apply, hT2_apply, dif_pos n.isLt, dif_pos n.isLt, dif_pos n.isLt, dif_pos n.isLt]

/-- A point's weight is the reference's. -/
theorem weight_eq (y v : Fin 256) (n : Fin 10000) :
    Cert.KernelIdeal.Image.weight x0 x1 x2 y v ⟨n.val, by have := n.isLt; omega⟩ = Cert.ReferenceIdeal.RefAt.weight x0 x1 x2 y v n := by
  unfold Cert.KernelIdeal.Image.weight Cert.ReferenceIdeal.RefAt.weight kCos kSin kVar
  rw [hT1_apply, hT2_apply, hT2_apply, hT2_apply, hT2_apply, dif_pos n.isLt, dif_pos n.isLt, dif_pos n.isLt, dif_pos n.isLt,
    dif_pos n.isLt]
  obtain ⟨t, hk, hr⟩ := angle_real (x2 (ix2 n 0))
  obtain ⟨px, hpx⟩ := tanh_real (x0 (ix2 n 0))
  obtain ⟨py, hpy⟩ := tanh_real (x0 (ix2 n 1))
  rw [hk, hr, hpx, hpy, coord_real v.val v.isLt, coord_real y.val y.isLt, ← EReal.coe_sub]
  exact weight_row _ _ _ _ (scaled t _ _) _ py y.val

end Point

/-- An index of the image is a channel, a row and a column. -/
theorem pixel_eq (i : Cert.KernelIdeal.S1x3x256x256.Idx) : ∃ (ch : Fin 3) (y v : Fin 256), i = ix4 0 ch y v := by
  refine ⟨i 1, i 2, i 3, (eq_ix4 i).trans ?_⟩
  have h : i 0 = (0 : Fin 1) := Fin.ext (Nat.lt_one_iff.mp (i 0).isLt)
  exact congrArg (fun z : Fin 1 => (ix4 z (i 1) (i 2) (i 3) : Cert.KernelIdeal.S1x3x256x256.Idx)) h

/-- From arguments that agree the kernel program's result is the reference's. -/
theorem result_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (x0 x1 : FVec Ideal Cert.KernelIdeal.S10000x2 .f32) (x2 : FVec Ideal Cert.KernelIdeal.S10000x1 .f32)
    (x3 : FVec Ideal Cert.KernelIdeal.S10000x3 .f32) (x4 : FVec Ideal Cert.KernelIdeal.S10000x2 .f32)
    (x5 : FVec Ideal Cert.KernelIdeal.S10000x1 .f32)
    (h0 : m ((c.tc : Thread Cert.KernelIdeal.nD Cert.KernelIdeal.τ).loc Cert.KernelIdeal.main_arg0) = x0)
    (h1 : m ((c.tc : Thread Cert.KernelIdeal.nD Cert.KernelIdeal.τ).loc Cert.KernelIdeal.main_arg1) = x1)
    (h2 : m ((c.tc : Thread Cert.KernelIdeal.nD Cert.KernelIdeal.τ).loc Cert.KernelIdeal.main_arg2) = x2)
    (h3 : m ((c.tc : Thread Cert.KernelIdeal.nD Cert.KernelIdeal.τ).loc Cert.KernelIdeal.main_arg3) = x3)
    (h4 : m ((c.tc : Thread Cert.KernelIdeal.nD Cert.KernelIdeal.τ).loc Cert.KernelIdeal.main_arg4) = x4)
    (h5 : m ((c.tc : Thread Cert.KernelIdeal.nD Cert.KernelIdeal.τ).loc Cert.KernelIdeal.main_arg5) = x5)
    (h0' : m' ((c.tc : Thread Cert.ReferenceIdeal.nD Cert.ReferenceIdeal.τ).loc Cert.ReferenceIdeal.main_arg0) = x0)
    (h1' : m' ((c.tc : Thread Cert.ReferenceIdeal.nD Cert.ReferenceIdeal.τ).loc Cert.ReferenceIdeal.main_arg1) = x1)
    (h2' : m' ((c.tc : Thread Cert.ReferenceIdeal.nD Cert.ReferenceIdeal.τ).loc Cert.ReferenceIdeal.main_arg2) = x2)
    (h3' : m' ((c.tc : Thread Cert.ReferenceIdeal.nD Cert.ReferenceIdeal.τ).loc Cert.ReferenceIdeal.main_arg3) = x3)
    (h4' : m' ((c.tc : Thread Cert.ReferenceIdeal.nD Cert.ReferenceIdeal.τ).loc Cert.ReferenceIdeal.main_arg4) = x4)
    (h5' : m' ((c.tc : Thread Cert.ReferenceIdeal.nD Cert.ReferenceIdeal.τ).loc Cert.ReferenceIdeal.main_arg5) = x5) :
    (Cert.ReferenceIdeal.Value.res_main_v113 m' c : FVec Ideal Cert.KernelIdeal.S1x3x256x256 .f32)
      = Cert.KernelIdeal.Gen.W16 m ρ c (Proc.devRef .tc Cert.KernelIdeal.main_v26) := by
  funext i
  obtain ⟨ch, y, v, rfl⟩ := pixel_eq i
  refine (Cert.ReferenceIdeal.RefAt.at_pixel m' c ch y v x0 x1 x2 x3 x4 x5 h0' h1' h2' h3' h4' h5').trans
    (Eq.trans ?_ (Cert.KernelIdeal.Image.at_pixel m ρ c ch y v x0 x1 x2 x3 x4 x5 h0 h1 h2 h3 h4 h5).symm)
  refine congrArg (fun z : EReal => min (1 : EReal) (max 0 z)) ?_
  rw [sum_padded _ fun n hn => by rw [amp_pad x3 x4 x5 ch n hn, zero_mul]]
  refine Finset.sum_congr rfl fun n _ => ?_
  rw [amp_eq, weight_eq, mul_comm]

end Cert.Splat

end
-- ==== Proof.lean ====
/-
  The certificate: the three programs run to their ends, the idealized kernel's named constants are the ones its
  original rounds, and the idealized kernel's result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Equation
public import Idealize.ShloMosaic.Lib.Claim
public import Idealize.ShloMosaic.Lib.Quiescent
public import Idealize.ShloMosaic.PureOps.IdealRules
public import Idealize.ShloMosaic.Adequacy
public import Idealize.ShloMosaic.Init

@[expose] public section

noncomputable section

namespace Cert.Proof

open Idealize.ShloMosaic Idealize.ShloMosaic.TcCoe Idealize.ShloMosaic.Tactic Idealize.SL.Sem

/-- The kernel program runs to its end with its arguments unchanged. -/
theorem frame_kernel : quiescent_Kernel := fun m ρ _ => Cert.Kernel.Gen.frame m ρ

/-- So does the idealized kernel program. -/
theorem frame_kernelIdeal : quiescent_KernelIdeal := fun m ρ _ => Cert.KernelIdeal.Gen.frame m ρ

/-- So does the reference program. -/
theorem frame_referenceIdeal : quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The named constants are the ones the kernel program rounds. -/
theorem preserves : preserves_Kernel_KernelIdeal :=
  ⟨IdealRules.named_const.statement Cert.KernelIdeal.κ "neg_half_log2e" .f32 0xBF38AA3B#32 _ rfl,
    IdealRules.named_const.statement Cert.KernelIdeal.κ "log2e" .f32 0x3FB8AA3B#32 _ rfl⟩

/-- Over the extended reals the kernel program and the reference end with the same image. -/
theorem algebraic : algebraic_KernelIdeal_ReferenceIdeal := by
  pair_intro
  · run_from Cert.KernelIdeal.KRun.run (F := Ideal) m g
  · refine (θ_run Cert.ReferenceIdeal.defs _ _).mono (fun r h c => ⟨(h c).1.trans ?_, (h c).2⟩)
      (Cert.ReferenceIdeal.Value.run (F := Ideal) m' g')
    obtain ⟨a0, a1, a2, a3, a4, a5⟩ := hagree c
    exact Cert.Splat.result_eq m g m' c _ _ _ _ _ _ rfl rfl rfl rfl rfl rfl a0 a1 a2 a3 a4 a5

/-- The whole claim. -/
theorem claim : Cert.Claim :=
  ⟨Cert.Kernel.Gen.facts, Cert.KernelIdeal.Gen.facts, Cert.ReferenceIdeal.Gen.facts, frame_kernel, frame_kernelIdeal,
    frame_referenceIdeal, preserves, algebraic⟩

end Cert.Proof

end
